-- ==== Defs.lean ====
def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2)
      ∧ r.2.mem ((c.tc : Thread Cert.MlpInRefIdeal.nD Cert.MlpInRefIdeal.τ).loc Cert.MlpInRefIdeal.main_arg3) = m ((c.tc : Thread Cert.MlpInRefIdeal.nD Cert.MlpInRefIdeal.τ).loc Cert.MlpInRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)
      ∧ m' ((c.tc : Thread Cert.MlpInRefIdeal.nD Cert.MlpInRefIdeal.τ).loc Cert.MlpInRefIdeal.main_arg2) = m ((c.tc : Thread Cert.MlpInIdeal.nD Cert.MlpInIdeal.τ).loc Cert.MlpInIdeal.main_arg2)
      ∧ m' ((c.tc : Thread Cert.MlpInRefIdeal.nD Cert.MlpInRefIdeal.τ).loc Cert.MlpInRefIdeal.main_arg3) = m ((c.tc : Thread Cert.MlpInIdeal.nD Cert.MlpInIdeal.τ).loc Cert.MlpInIdeal.main_arg3)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v0_0) = v0 c
          ∧ r.2.mem ((c.tc : Thread Cert.MlpInRefIdeal.nD Cert.MlpInRefIdeal.τ).loc Cert.MlpInRefIdeal.main_v0_1) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1)
          ∧ r.2.mem ((c.tc : Thread Cert.MlpInRefIdeal.nD Cert.MlpInRefIdeal.τ).loc Cert.MlpInRefIdeal.main_arg2) = m' ((c.tc : Thread Cert.MlpInRefIdeal.nD Cert.MlpInRefIdeal.τ).loc Cert.MlpInRefIdeal.main_arg2)
          ∧ r.2.mem ((c.tc : Thread Cert.MlpInRefIdeal.nD Cert.MlpInRefIdeal.τ).loc Cert.MlpInRefIdeal.main_arg3) = m' ((c.tc : Thread Cert.MlpInRefIdeal.nD Cert.MlpInRefIdeal.τ).loc Cert.MlpInRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2_0) = v0 c
          ∧ r.2.mem ((c.tc : Thread Cert.QkvRefIdeal.nD Cert.QkvRefIdeal.τ).loc Cert.QkvRefIdeal.main_v2_1) = v1 c
          ∧ r.2.mem ((c.tc : Thread Cert.QkvRefIdeal.nD Cert.QkvRefIdeal.τ).loc Cert.QkvRefIdeal.main_v2_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def Claim : Prop :=
  ∃ (hMlpIn : Cert.MlpIn.Facts) (hMlpInIdeal : Cert.MlpInIdeal.Facts) (hMlpInRefIdeal : Cert.MlpInRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts),
    quiescent_MlpIn (hMlpIn := hMlpIn)
    ∧ quiescent_MlpInIdeal (hMlpInIdeal := hMlpInIdeal)
    ∧ quiescent_MlpInRefIdeal (hMlpInRefIdeal := hMlpInRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ preserves_MlpIn_MlpInIdeal
    ∧ algebraic_MlpInIdeal_MlpInRefIdeal (hMlpInIdeal := hMlpInIdeal) (hMlpInRefIdeal := hMlpInRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
-- ==== MlpIn.lean ====
abbrev S256x3072 : Shape := ⟨2, ![256, 3072]⟩
abbrev S256x1 : Shape := ⟨2, ![256, 1]⟩
abbrev S1536x20992 : Shape := ⟨2, ![1536, 20992]⟩
abbrev S24x20992 : Shape := ⟨2, ![24, 20992]⟩
abbrev S256x8192 : Shape := ⟨2, ![256, 8192]⟩
abbrev S1536x512 : Shape := ⟨2, ![1536, 512]⟩
abbrev S24x512 : Shape := ⟨2, ![24, 512]⟩
abbrev S16x256x512 : Shape := ⟨3, ![16, 256, 512]⟩
abbrev S1536x1x512 : Shape := ⟨3, ![1536, 1, 512]⟩
abbrev S1536x2x512 : Shape := ⟨3, ![1536, 2, 512]⟩
abbrev S3072x512 : Shape := ⟨2, ![3072, 512]⟩
abbrev S128x512 : Shape := ⟨2, ![128, 512]⟩
abbrev S1x512 : Shape := ⟨2, ![1, 512]⟩
abbrev S256x512 : Shape := ⟨2, ![256, 512]⟩
abbrev S1x256x512 : Shape := ⟨3, ![1, 256, 512]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S256x3072, .fp8e4m3⟩
  | .hbm, ⟨1, _⟩ => ⟨S256x1, .f32⟩
  | .hbm, ⟨2, _⟩ => ⟨S1536x20992, .i8⟩
  | .hbm, ⟨3, _⟩ => ⟨S24x20992, .f32⟩
  | .hbm, ⟨4, _⟩ => ⟨S256x8192, .fp8e4m3⟩
  | .hbm, ⟨5, _⟩ => ⟨S256x1, .f32⟩
  | .local _ .vmem, ⟨0, _⟩ => ⟨S256x3072, .fp8e4m3⟩
  | .local _ .vmem, ⟨1, _⟩ => ⟨S256x1, .f32⟩
  | .local _ .vmem, ⟨2, _⟩ => ⟨S1536x512, .i8⟩
  | .local _ .vmem, ⟨3, _⟩ => ⟨S1536x512, .i8⟩
  | .local _ .vmem, ⟨4, _⟩ => ⟨S24x512, .f32⟩
  | .local _ .vmem, ⟨5, _⟩ => ⟨S24x512, .f32⟩
  | .local _ .vmem, ⟨6, _⟩ => ⟨S1536x512, .i8⟩
  | .local _ .vmem, ⟨7, _⟩ => ⟨S1536x512, .i8⟩
  | .local _ .vmem, ⟨8, _⟩ => ⟨S24x512, .f32⟩
  | .local _ .vmem, ⟨9, _⟩ => ⟨S24x512, .f32⟩
  | .local _ .vmem, ⟨10, _⟩ => ⟨S256x8192, .fp8e4m3⟩
  | .local _ .vmem, ⟨11, _⟩ => ⟨S256x1, .f32⟩
  | .local _ .vmem, ⟨12, _⟩ => ⟨S256x3072, .bf16⟩
  | .local _ .vmem, ⟨13, _⟩ => ⟨S16x256x512, .f32⟩
  | _, _ => ⟨S256x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v243 : Index := Scalar.indexCast arg0
  let c0_21 : Index := 0#32
  let c0_22 : Index := 0#32
  ![v243.toNat, 0, 0]
def k0_cond2 (i : grid0.Coords) : BitVec 1 :=
  let arg0 : BitVec 32 := BitVec.ofNat 32 (i 0).val
  let c15_i32 : BitVec 32 := 15#32
  let v247 : BitVec 1 := Scalar.cmpi .eq arg0 c15_i32
  let v248 : BitVec 32 := Scalar.extui v247
  let c0_i32_23 : BitVec 32 := 0#32
  let v249 : BitVec 1 := Scalar.cmpi .ne v248 c0_i32_23
  v249

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpInRefIdeal.lean ====
abbrev S256x3072 : Shape := ⟨2, ![256, 3072]⟩
abbrev S256x1 : Shape := ⟨2, ![256, 1]⟩
abbrev S1536x20992 : Shape := ⟨2, ![1536, 20992]⟩
abbrev S24x20992 : Shape := ⟨2, ![24, 20992]⟩
abbrev S256x8192 : Shape := ⟨2, ![256, 8192]⟩
abbrev S1536x8192 : Shape := ⟨2, ![1536, 8192]⟩
abbrev S24x8192 : Shape := ⟨2, ![24, 8192]⟩
abbrev S24x1x8192 : Shape := ⟨3, ![24, 1, 8192]⟩
abbrev S24x64x8192 : Shape := ⟨3, ![24, 64, 8192]⟩
abbrev S256x1536x2 : Shape := ⟨3, ![256, 1536, 2]⟩
abbrev S256x1536x1 : Shape := ⟨3, ![256, 1536, 1]⟩
abbrev S256x1536 : Shape := ⟨2, ![256, 1536]⟩
abbrev S256 : Shape := ⟨1, ![256]⟩
abbrev S256x253 : Shape := ⟨2, ![256, 253]⟩

abbrev nBuf : Space → Nat
  | .hbm => 6
  | .vmem => 6
  | .smem => 0
  | _ => 0

abbrev bufTy : (tb : Table) → Fin (tcTables nBuf tb) → BufTy
  | .hbm, ⟨0, _⟩ => ⟨S256x3072, .fp8e4m3⟩
  | .hbm, ⟨1, _⟩ => ⟨S256x1, .f32⟩
  | .hbm, ⟨2, _⟩ => ⟨S1536x20992, .i8⟩
  | .hbm, ⟨3, _⟩ => ⟨S24x20992, .f32⟩
  | .hbm, ⟨4, _⟩ => ⟨S256x8192, .fp8e4m3⟩
  | .hbm, ⟨5, _⟩ => ⟨S256x1, .f32⟩
  | .local _ .vmem, ⟨0, _⟩ => ⟨S256x3072, .fp8e4m3⟩
  | .local _ .vmem, ⟨1, _⟩ => ⟨S256x1, .f32⟩
  | .local _ .vmem, ⟨2, _⟩ => ⟨S1536x20992, .i8⟩
  | .local _ .vmem, ⟨3, _⟩ => ⟨S24x20992, .f32⟩
  | .local _ .vmem, ⟨4, _⟩ => ⟨S256x8192, .fp8e4m3⟩
  | .local _ .vmem, ⟨5, _⟩ => ⟨S256x1, .f32⟩
  | _, _ => ⟨S256x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x20992 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x20992 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S256x8192 : Shape := ⟨2, ![256, 8192]⟩
abbrev S256x1 : Shape := ⟨2, ![256, 1]⟩
abbrev S4096x3072 : Shape := ⟨2, ![4096, 3072]⟩
abbrev S64x3072 : Shape := ⟨2, ![64, 3072]⟩
abbrev S2x128x3072 : Shape := ⟨3, ![2, 128, 3072]⟩
abbrev S256x3072 : Shape := ⟨2, ![256, 3072]⟩
abbrev S4096x512 : Shape := ⟨2, ![4096, 512]⟩
abbrev S64x512 : Shape := ⟨2, ![64, 512]⟩
abbrev S256x512 : Shape := ⟨2, ![256, 512]⟩
abbrev S4096x1x512 : Shape := ⟨3, ![4096, 1, 512]⟩
abbrev S4096x2x512 : Shape := ⟨3, ![4096, 2, 512]⟩
abbrev S8192x512 : Shape := ⟨2, ![8192, 512]⟩
abbrev S128x512 : Shape := ⟨2, ![128, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S256x8192, .fp8e4m3⟩
  | .hbm, ⟨1, _⟩ => ⟨S256x1, .f32⟩
  | .hbm, ⟨2, _⟩ => ⟨S4096x3072, .i8⟩
  | .hbm, ⟨3, _⟩ => ⟨S64x3072, .f32⟩
  | .hbm, ⟨4, _⟩ => ⟨S2x128x3072, .bf16⟩
  | .hbm, ⟨5, _⟩ => ⟨S256x3072, .bf16⟩
  | .hbm, ⟨6, _⟩ => ⟨S256x3072, .bf16⟩
  | .local _ .vmem, ⟨0, _⟩ => ⟨S256x8192, .fp8e4m3⟩
  | .local _ .vmem, ⟨1, _⟩ => ⟨S256x1, .f32⟩
  | .local _ .vmem, ⟨2, _⟩ => ⟨S4096x512, .i8⟩
  | .local _ .vmem, ⟨3, _⟩ => ⟨S4096x512, .i8⟩
  | .local _ .vmem, ⟨4, _⟩ => ⟨S64x512, .f32⟩
  | .local _ .vmem, ⟨5, _⟩ => ⟨S64x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x8192, .bf16⟩
  | _, _ => ⟨S256x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S256x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S256x8192 : Shape := ⟨2, ![256, 8192]⟩
abbrev S256x1 : Shape := ⟨2, ![256, 1]⟩
abbrev S4096x3072 : Shape := ⟨2, ![4096, 3072]⟩
abbrev S64x3072 : Shape := ⟨2, ![64, 3072]⟩
abbrev S2x128x3072 : Shape := ⟨3, ![2, 128, 3072]⟩
abbrev S256x3072 : Shape := ⟨2, ![256, 3072]⟩
abbrev S64x1x3072 : Shape := ⟨3, ![64, 1, 3072]⟩
abbrev S64x64x3072 : Shape := ⟨3, ![64, 64, 3072]⟩
abbrev S256x4096x2 : Shape := ⟨3, ![256, 4096, 2]⟩
abbrev S256x4096x1 : Shape := ⟨3, ![256, 4096, 1]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S256x8192, .fp8e4m3⟩
  | .hbm, ⟨1, _⟩ => ⟨S256x1, .f32⟩
  | .hbm, ⟨2, _⟩ => ⟨S4096x3072, .i8⟩
  | .hbm, ⟨3, _⟩ => ⟨S64x3072, .f32⟩
  | .hbm, ⟨4, _⟩ => ⟨S2x128x3072, .bf16⟩
  | .hbm, ⟨5, _⟩ => ⟨S256x3072, .bf16⟩
  | .hbm, ⟨6, _⟩ => ⟨S256x3072, .bf16⟩
  | .local _ .vmem, ⟨0, _⟩ => ⟨S256x8192, .fp8e4m3⟩
  | .local _ .vmem, ⟨1, _⟩ => ⟨S256x1, .f32⟩
  | .local _ .vmem, ⟨2, _⟩ => ⟨S4096x3072, .i8⟩
  | .local _ .vmem, ⟨3, _⟩ => ⟨S64x3072, .f32⟩
  | .local _ .vmem, ⟨4, _⟩ => ⟨S256x3072, .bf16⟩
  | .local _ .vmem, ⟨5, _⟩ => ⟨S256x3072, .bf16⟩
  | _, _ => ⟨S256x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv.lean ====
abbrev S2x128x3072 : Shape := ⟨3, ![2, 128, 3072]⟩
abbrev S3072 : Shape := ⟨1, ![3072]⟩
abbrev S1536x20992 : Shape := ⟨2, ![1536, 20992]⟩
abbrev S24x20992 : Shape := ⟨2, ![24, 20992]⟩
abbrev S256x3072 : Shape := ⟨2, ![256, 3072]⟩
abbrev S1x3072 : Shape := ⟨2, ![1, 3072]⟩
abbrev S256x4608 : Shape := ⟨2, ![256, 4608]⟩
abbrev S256x1 : Shape := ⟨2, ![256, 1]⟩
abbrev S1536x512 : Shape := ⟨2, ![1536, 512]⟩
abbrev S24x512 : Shape := ⟨2, ![24, 512]⟩
abbrev S256x512 : Shape := ⟨2, ![256, 512]⟩
abbrev S256 : Shape := ⟨1, ![256]⟩
abbrev S1536x1x512 : Shape := ⟨3, ![1536, 1, 512]⟩
abbrev S1536x2x512 : Shape := ⟨3, ![1536, 2, 512]⟩
abbrev S3072x512 : Shape := ⟨2, ![3072, 512]⟩
abbrev S128x512 : Shape := ⟨2, ![128, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S1536x20992, .i8⟩
  | .hbm, ⟨3, _⟩ => ⟨S24x20992, .f32⟩
  | .hbm, ⟨4, _⟩ => ⟨S256x3072, .bf16⟩
  | .hbm, ⟨5, _⟩ => ⟨S1x3072, .f32⟩
  | .hbm, ⟨6, _⟩ => ⟨S256x4608, .bf16⟩
  | .hbm, ⟨7, _⟩ => ⟨S256x3072, .fp8e4m3⟩
  | .hbm, ⟨8, _⟩ => ⟨S256x1, .f32⟩
  | .local _ .vmem, ⟨0, _⟩ => ⟨S256x3072, .bf16⟩
  | .local _ .vmem, ⟨1, _⟩ => ⟨S1x3072, .f32⟩
  | .local _ .vmem, ⟨2, _⟩ => ⟨S1536x512, .i8⟩
  | .local _ .vmem, ⟨3, _⟩ => ⟨S1536x512, .i8⟩
  | .local _ .vmem, ⟨4, _⟩ => ⟨S24x512, .f32⟩
  | .local _ .vmem, ⟨5, _⟩ => ⟨S24x512, .f32⟩
  | .local _ .vmem, ⟨6, _⟩ => ⟨S256x512, .bf16⟩
  | .local _ .vmem, ⟨7, _⟩ => ⟨S256x512, .bf16⟩
  | .local _ .vmem, ⟨8, _⟩ => ⟨S256x3072, .fp8e4m3⟩
  | .local _ .vmem, ⟨9, _⟩ => ⟨S256x1, .f32⟩
  | .local _ .vmem, ⟨10, _⟩ => ⟨S256x3072, .bf16⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QkvRefIdeal.lean ====
abbrev S2x128x3072 : Shape := ⟨3, ![2, 128, 3072]⟩
abbrev S3072 : Shape := ⟨1, ![3072]⟩
abbrev S1536x20992 : Shape := ⟨2, ![1536, 20992]⟩
abbrev S24x20992 : Shape := ⟨2, ![24, 20992]⟩
abbrev S256x3072 : Shape := ⟨2, ![256, 3072]⟩
abbrev S1x3072 : Shape := ⟨2, ![1, 3072]⟩
abbrev S256x4608 : Shape := ⟨2, ![256, 4608]⟩
abbrev S256x1 : Shape := ⟨2, ![256, 1]⟩
abbrev S256 : Shape := ⟨1, ![256]⟩
abbrev S256x253 : Shape := ⟨2, ![256, 253]⟩
abbrev S1536x4608 : Shape := ⟨2, ![1536, 4608]⟩
abbrev S24x4608 : Shape := ⟨2, ![24, 4608]⟩
abbrev S24x1x4608 : Shape := ⟨3, ![24, 1, 4608]⟩
abbrev S24x64x4608 : Shape := ⟨3, ![24, 64, 4608]⟩
abbrev S256x1536x2 : Shape := ⟨3, ![256, 1536, 2]⟩
abbrev S256x1536x1 : Shape := ⟨3, ![256, 1536, 1]⟩
abbrev S256x1536 : Shape := ⟨2, ![256, 1536]⟩

abbrev nBuf : Space → Nat
  | .hbm => 9
  | .vmem => 7
  | .smem => 0
  | _ => 0

abbrev bufTy : (tb : Table) → Fin (tcTables nBuf tb) → BufTy
  | .hbm, ⟨0, _⟩ => ⟨S2x128x3072, .bf16⟩
  | .hbm, ⟨1, _⟩ => ⟨S3072, .f32⟩
  | .hbm, ⟨2, _⟩ => ⟨S1536x20992, .i8⟩
  | .hbm, ⟨3, _⟩ => ⟨S24x20992, .f32⟩
  | .hbm, ⟨4, _⟩ => ⟨S256x3072, .bf16⟩
  | .hbm, ⟨5, _⟩ => ⟨S1x3072, .f32⟩
  | .hbm, ⟨6, _⟩ => ⟨S256x4608, .bf16⟩
  | .hbm, ⟨7, _⟩ => ⟨S256x3072, .fp8e4m3⟩
  | .hbm, ⟨8, _⟩ => ⟨S256x1, .f32⟩
  | .local _ .vmem, ⟨0, _⟩ => ⟨S256x3072, .bf16⟩
  | .local _ .vmem, ⟨1, _⟩ => ⟨S1x3072, .f32⟩
  | .local _ .vmem, ⟨2, _⟩ => ⟨S1536x20992, .i8⟩
  | .local _ .vmem, ⟨3, _⟩ => ⟨S24x20992, .f32⟩
  | .local _ .vmem, ⟨4, _⟩ => ⟨S256x4608, .bf16⟩
  | .local _ .vmem, ⟨5, _⟩ => ⟨S256x3072, .fp8e4m3⟩
  | .local _ .vmem, ⟨6, _⟩ => ⟨S256x1, .f32⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x20992 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x20992 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.MlpInRun.lean ====
module

public import proofs.«01_k».proof.Proof.Gen.MlpInIdeal.Frame
public import proofs.«01_k».proof.Proof.Gen.MlpInIdeal.Skeleton

/-! The kernel of the call `mlp_in` run once, in each of the three cases its two conditionals leave:
    the first point, a point in the middle, the last point. -/

@[expose] public section

set_option maxRecDepth 16384

noncomputable section

namespace Cert.MlpInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpInIdeal Cert.MlpInIdeal.Gen

variable {F : FTy → Type} [FloatOps F]

local notation "𝕄" => MT nD τ sig Unit (Elt F) ℕ (UR sig nD τ) ℕ

/-- The condition under which the kernel fills the scratch with the left operand: the first point. -/
abbrev isFirst (i : grid0.Coords) : Prop := (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [isFirst, e0]
    word_cmp
   : ∀ t : Fin grid0.N, isFirst (grid0.coords t) ↔ t.val = 0)

/-- The condition under which the kernel quantises what it has gathered: the last point. -/
abbrev isLast (i : grid0.Coords) : Prop := k0_cond2 i = 1#1

/-- It holds at the last point only. -/
theorem isLast_iff : ∀ t : Fin cfg0.N, isLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [isLast, k0_cond2, e0]
    word_cmp
   : ∀ t : Fin grid0.N, isLast (grid0.coords t) ↔ t.val = 15)

section

variable (c : Dev nD) (i : grid0.Coords)
  (arg1 : Memref sig .tc .vmem S256x3072 .fp8e4m3) (harg1 : arg1.IsWhole)
  (arg2 : Memref sig .tc .vmem S256x1 .f32) (harg2 : arg2.IsWhole)
  (arg3 : Memref sig .tc .vmem S1536x512 .i8) (harg3 : arg3.IsWhole)
  (arg4 : Memref sig .tc .vmem S24x512 .f32) (harg4 : arg4.IsWhole)
  (arg5 : Memref sig .tc .vmem S1536x512 .i8) (harg5 : arg5.IsWhole)
  (arg6 : Memref sig .tc .vmem S24x512 .f32) (harg6 : arg6.IsWhole)
  (arg7 : Memref sig .tc .vmem S256x8192 .fp8e4m3) (harg7 : arg7.IsWhole)
  (arg8 : Memref sig .tc .vmem S256x1 .f32) (harg8 : arg8.IsWhole)
  (arg9 : Memref sig .tc .vmem S256x3072 .bf16) (harg9 : arg9.IsWhole)
  (arg10 : Memref sig .tc .vmem S16x256x512 .f32) (harg10 : arg10.IsWhole)

set_option maxHeartbeats 4000000 in
/-- What the kernel stores at the first point: the left operand (`L8`) and the first slice (`L9`), as the pieces found by running it. -/
def first (hc0 : isFirst i) (hc1 : ¬isLast i)
    (x0 : Vec F S256x3072 .fp8e4m3) (x1 : Vec F S256x1 .f32) (x2 : Vec F S1536x512 .i8) (x3 : Vec F S24x512 .f32) (x4 : Vec F S1536x512 .i8) (x5 : Vec F S24x512 .f32) :
    Σ' (L8 : List (View.Piece (Elt F) S256x3072 .bf16)), { L9 : List (View.Piece (Elt F) S16x256x512 .f32) //
      ∀ (xs1 : Vec F S16x256x512 .f32) (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ (∃ d, owns (c : Thread nD τ) arg9 fullShare d)
          ∗ owns (c : Thread nD τ) arg10 fullShare xs1
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ f, arg9.view.loc (c : Thread nD τ) ↦[arg9.view.set]{fullShare} arg9.view.writes (Elt F) f L8)
            ∗ (arg10.view.loc (c : Thread nD τ) ↦[arg10.view.set]{fullShare} arg10.view.writes (Elt F) (harg10.unread xs1) L9)) -∗ K ⟨⟩))
          ⊢ wp frame (wpE (defs₀ (F := F)) Variants.none c none) E (cc0_mlp_in i arg1 harg1 arg2 harg2 arg3 harg3 arg4 harg4 arg5 harg5 arg6 harg6 arg7 harg7 arg8 harg8 arg9 harg9 arg10 harg10) K } := by
  refine ⟨?_, ?_, fun xs1 E K => ?run⟩
  case run =>
    simp only [cc0_mlp_in_eq_skeleton]; unfold cc0_mlp_in_skel
    simp only [k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexact HS1

set_option maxHeartbeats 4000000 in
/-- What the kernel stores at a point in the middle: one slice (`L9`), over the left operand `xs0` the first point left. -/
def middle (hc0 : ¬isFirst i) (hc1 : ¬isLast i)
    (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) :
    { L9 : List (View.Piece (Elt F) S16x256x512 .f32) //
      ∀ (xs1 : Vec F S16x256x512 .f32) (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg9 fullShare xs0
          ∗ owns (c : Thread nD τ) arg10 fullShare xs1
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg9 fullShare xs0
            ∗ (arg10.view.loc (c : Thread nD τ) ↦[arg10.view.set]{fullShare} arg10.view.writes (Elt F) (harg10.unread xs1) L9)) -∗ K ⟨⟩))
          ⊢ wp frame (wpE (defs₀ (F := F)) Variants.none c none) E (cc0_mlp_in i arg1 harg1 arg2 harg2 arg3 harg3 arg4 harg4 arg5 harg5 arg6 harg6 arg7 harg7 arg8 harg8 arg9 harg9 arg10 harg10) K } := by
  refine ⟨?_, fun xs1 E K => ?run⟩
  case run =>
    simp only [cc0_mlp_in_eq_skeleton]; unfold cc0_mlp_in_skel
    simp only [k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hfs0
    obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg9.read_unread _
      iexact HS0
    iexact HS1

set_option maxHeartbeats 4000000 in
/-- What the kernel stores at the last point: the codes (`L6`), the scales (`L7`) and the last slice (`L9`), over the left operand `xs0` and the
    slices `xs1` the points before it left. -/
def last (hc0 : ¬isFirst i) (hc1 : isLast i)
    (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) (xs1 : Vec F S16x256x512 .f32) :
    Σ' (L6 : List (View.Piece (Elt F) S256x8192 .fp8e4m3)) (L7 : List (View.Piece (Elt F) S256x1 .f32)), { L9 : List (View.Piece (Elt F) S16x256x512 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ (∃ d, owns (c : Thread nD τ) arg7 fullShare d)
          ∗ (∃ d, owns (c : Thread nD τ) arg8 fullShare d)
          ∗ owns (c : Thread nD τ) arg9 fullShare xs0
          ∗ owns (c : Thread nD τ) arg10 fullShare xs1
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ (∃ f, arg7.view.loc (c : Thread nD τ) ↦[arg7.view.set]{fullShare} arg7.view.writes (Elt F) f L6)
            ∗ (∃ f, arg8.view.loc (c : Thread nD τ) ↦[arg8.view.set]{fullShare} arg8.view.writes (Elt F) f L7)
            ∗ owns (c : Thread nD τ) arg9 fullShare xs0
            ∗ (arg10.view.loc (c : Thread nD τ) ↦[arg10.view.set]{fullShare} arg10.view.writes (Elt F) (harg10.unread xs1) L9)) -∗ K ⟨⟩))
          ⊢ wp frame (wpE (defs₀ (F := F)) Variants.none c none) E (cc0_mlp_in i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_mlp_in_eq_skeleton]; unfold cc0_mlp_in_skel
    simp only [k0_part10_eq_skeleton, k0_part11_eq_skeleton, k0_part12_eq_skeleton, k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hfs0
    obtain rfl := harg10.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    iexact HS1

end

end Cert.MlpInIdeal.Run

end
-- ==== Proof.Dequant.lean ====
/-
  Four-bit weights kept two to a byte, scaled group by group: what unpacking a byte and spreading a group's scale over
  its rows read at one index, and a product over the unpacked rows as a product over even rows plus one over odd rows.
-/
module

public import Idealize.ShloMosaic.Lib.Pointwise
public import Idealize.ShloMosaic.Lib.Pipeline.Value
public import Idealize.ShloMosaic.Lib.ValueLayout

@[expose] public section

set_option maxRecDepth 16384

noncomputable section

open Idealize.ShloMosaic Idealize.ShloMosaic.TcCoe

namespace Cert.Dequant

/-- The low four bits of a byte as a signed number: below 8 as they are, from 8 on less 16. -/
abbrev lowField (b : BitVec 8) : BitVec 32 :=
  Scalar.select (IntOp.cmpi CmpIPredicate.slt (IntOp.andi (BitVec.setWidth 32 b) 15#32) 8#32)
    (IntOp.andi (BitVec.setWidth 32 b) 15#32) (IntOp.subi (IntOp.andi (BitVec.setWidth 32 b) 15#32) 16#32)

/-- The high four bits of a byte as a signed number, in the same way. -/
abbrev highField (b : BitVec 8) : BitVec 32 :=
  Scalar.select (IntOp.cmpi CmpIPredicate.slt (IntOp.shrsi ArithUnit.vector (BitVec.setWidth 32 b) 4#32) 8#32)
    (IntOp.shrsi ArithUnit.vector (BitVec.setWidth 32 b) 4#32)
    (IntOp.subi (IntOp.shrsi ArithUnit.vector (BitVec.setWidth 32 b) 4#32) 16#32)

/-- Shifting the byte to the top of a 32-bit word and back with the sign gives the low field. -/
theorem shift_low (b : BitVec 8) :
    IntOp.shrsi ArithUnit.vector (IntOp.shli ArithUnit.vector (BitVec.setWidth 32 b) 28#32) 28#32 = lowField b := by
  revert b; decide +kernel

/-- Shifting the byte's high half to the top of the word and back with the sign gives the high field. -/
theorem shift_high (b : BitVec 8) :
    IntOp.shrsi ArithUnit.vector (IntOp.shli ArithUnit.vector (BitVec.setWidth 32 b) 24#32) 28#32 = highField b := by
  revert b; decide +kernel

/-- The rows of a weight block times their group's scale: `G` pieces of 128 rows, piece `n` times row `n` of the
    scales, one under the other. -/
def grouped {F : FTy → Type} [FloatOps F] {G N : ℕ} (w : FVec F ⟨2, ![G * 128, N]⟩ .bf16) (s : FVec F ⟨2, ![G, N]⟩ .bf16)
    (h1 : ∀ n : Fin G, (⟨2, ![G * 128, N]⟩ : Shape).Slices ![n.val * 128, 0] ⟨2, ![128, N]⟩)
    (h2 : ∀ n : Fin G, (⟨2, ![G, N]⟩ : Shape).Slices ![n.val, 0] ⟨2, ![1, N]⟩)
    (hb : (⟨2, ![1, N]⟩ : Shape).Broadcasts ⟨2, ![128, N]⟩) (n : Fin G) : FVec F ⟨2, ![128, N]⟩ .bf16 :=
  mulf (extractStridedSlice ⟨2, ![128, N]⟩ ![n.val * 128, 0] w (h1 n))
    (broadcastTo ⟨2, ![128, N]⟩ (extractStridedSlice ⟨2, ![1, N]⟩ ![n.val, 0] s (h2 n)) hb)

/-- The shapes of the pieces are one shape, `G` times over. -/
theorem grouped_shapes {F : FTy → Type} [FloatOps F] {G N : ℕ} (f : Fin G → FVec F ⟨2, ![128, N]⟩ .bf16) :
    (List.ofFn fun n : Fin G => (⟨⟨2, ![128, N]⟩, f n⟩ : (s : Shape) × (s.Idx → F .bf16))).map (·.1)
      = List.replicate G ⟨2, ![128, N]⟩ := by
  rw [List.map_ofFn]
  exact List.ofFn_const G _

/-- A row of the scaled block: the weight times the scale of the group of 128 rows it lies in. -/
theorem concatenate_grouped_apply {G N : ℕ} (w : FVec Ideal ⟨2, ![G * 128, N]⟩ .bf16) (s : FVec Ideal ⟨2, ![G, N]⟩ .bf16)
    (h1 : ∀ n : Fin G, (⟨2, ![G * 128, N]⟩ : Shape).Slices ![n.val * 128, 0] ⟨2, ![128, N]⟩)
    (h2 : ∀ n : Fin G, (⟨2, ![G, N]⟩ : Shape).Slices ![n.val, 0] ⟨2, ![1, N]⟩)
    (hb : (⟨2, ![1, N]⟩ : Shape).Broadcasts ⟨2, ![128, N]⟩)
    (h : Shape.Concatenates ((List.ofFn fun n : Fin G => (⟨⟨2, ![128, N]⟩, grouped w s h1 h2 hb n⟩ : (s : Shape) × (s.Idx → Ideal .bf16))).map (·.1)) ⟨2, ![G * 128, N]⟩ 0)
    (r : Fin (G * 128)) (j : Fin N) :
    concatenate ⟨2, ![G * 128, N]⟩ 0 (List.ofFn fun n : Fin G => (⟨⟨2, ![128, N]⟩, grouped w s h1 h2 hb n⟩ : (s : Shape) × (s.Idx → Ideal .bf16))) h (ix2 r j)
      = ((w (ix2 r j) : EReal) * (s (ix2 ⟨r.val / 128, by omega⟩ j) : EReal) : EReal) := by
  have hg : r.val / 128 < G := by omega
  rw [concatenate_ofFn_apply (t := ⟨2, ![G * 128, N]⟩) (s₁ := ⟨2, ![128, N]⟩) 0 (fun n => grouped w s h1 h2 hb n) h rfl 128 rfl (ix2 r j)
    ⟨r.val / 128, hg⟩ rfl (ix2 ⟨r.val % 128, Nat.mod_lt _ (by decide)⟩ j) rfl
    (by intro b hb'; fin_cases b
        · exact absurd rfl hb'
        · rfl)]
  unfold grouped
  show (extractStridedSlice _ _ w _ _ : EReal) * (broadcastTo _ _ _ _ : EReal) = _
  congr 1
  · unfold extractStridedSlice
    refine congrArg w (funext fun a => Fin.ext ?_)
    fin_cases a
    · show r.val / 128 * 128 + r.val % 128 = r.val; omega
    · show 0 + j.val = j.val; omega
  · refine (ValueIdx.broadcastTo_1b_ab_apply _ hb _ _).trans ?_
    unfold extractStridedSlice
    refine congrArg s (funext fun a => Fin.ext ?_)
    fin_cases a
    · show r.val / 128 + 0 = r.val / 128; omega
    · show 0 + j.val = j.val; omega

/-- A sum over twice as many rows: the even ones, then the odd ones. -/
theorem sum_even_odd {K : ℕ} (f : Fin (K * 2) → EReal) :
    ∑ r : Fin (K * 2), f r = ∑ k : Fin K, f ⟨k.val * 2, by omega⟩ + ∑ k : Fin K, f ⟨k.val * 2 + 1, by omega⟩ := by
  rw [Fin.sum_univ_tiles K 2 rfl f]
  simp only [Fin.sum_univ_two, Fin.val_zero, Fin.val_one, Nat.add_zero]
  exact Finset.sum_add_distrib

/-- One entry of a row of codes times a column of two-to-a-byte weights: the even codes with the bytes' low fields, plus
    the odd codes with their high fields, each field times its scale. -/
def product {K : ℕ} (a : Fin (K * 2) → EReal) (w : Fin K → BitVec 8) (s : Fin K → EReal) : EReal :=
  ∑ k : Fin K, a ⟨k.val * 2, by omega⟩ * (FloatOps.sitofp (F := Ideal) FTy.bf16 (lowField (w k)) * s k)
    + ∑ k : Fin K, a ⟨k.val * 2 + 1, by omega⟩ * (FloatOps.sitofp (F := Ideal) FTy.bf16 (highField (w k)) * s k)

/-- A row of unpacked weights: row `r` is byte `r / 2`, shifted up and back so as to leave its low field where `r` is
    even, its high field where `r` is odd. -/
abbrev unpacked {K : ℕ} (w : Fin K → BitVec 8) (r : Fin (K * 2)) : BitVec 32 :=
  if r.val % 2 < 1 then
    IntOp.shrsi ArithUnit.vector (IntOp.shli ArithUnit.vector (BitVec.setWidth 32 (w ⟨r.val / 2, by omega⟩)) 28#32) 28#32
  else
    IntOp.shrsi ArithUnit.vector (IntOp.shli ArithUnit.vector (BitVec.setWidth 32 (w ⟨r.val / 2, by omega⟩)) 24#32) 28#32

/-- The product over all unpacked rows is `product`, the scale of a row being that of its byte. -/
theorem sum_unpacked {K : ℕ} (a : Fin (K * 2) → EReal) (w : Fin K → BitVec 8) (s : Fin K → EReal) (s' : Fin (K * 2) → EReal)
    (hs : ∀ r : Fin (K * 2), s' r = s ⟨r.val / 2, by omega⟩) :
    ∑ r : Fin (K * 2), a r * (FloatOps.sitofp (F := Ideal) FTy.bf16 (unpacked w r) * s' r) = product a w s := by
  rw [sum_even_odd]
  refine congrArg₂ (· + ·) (Finset.sum_congr rfl fun k _ => ?_) (Finset.sum_congr rfl fun k _ => ?_)
  · have h : unpacked w ⟨k.val * 2, by omega⟩ = lowField (w k) := by
      rw [← shift_low]
      unfold unpacked
      rw [if_pos (by show k.val * 2 % 2 < 1; omega)]
      simp only [Nat.mul_div_cancel _ (by decide : 0 < 2)]
    have h2 : s' ⟨k.val * 2, by omega⟩ = s k := by
      rw [hs]; exact congrArg s (Fin.ext (by show k.val * 2 / 2 = k.val; omega))
    rw [h, h2]
  · have e : (k.val * 2 + 1) / 2 = k.val := by omega
    have h : unpacked w ⟨k.val * 2 + 1, by omega⟩ = highField (w k) := by
      rw [← shift_high]
      unfold unpacked
      rw [if_neg (by show ¬(k.val * 2 + 1) % 2 < 1; omega)]
      simp only [e]
    have h2 : s' ⟨k.val * 2 + 1, by omega⟩ = s k := by
      rw [hs]; exact congrArg s (Fin.ext e)
    rw [h, h2]

end Cert.Dequant

end
-- ==== Proof.MlpInSlices.lean ====
/-
  What the kernel of `mlp_in` stores, told over plain arrays: each point's slice of the hidden activations, and, at the
  last point, the scales and the codes of all sixteen slices together.
-/
module

public import proofs.«01_k».proof.Proof.MlpInRun
public import proofs.«01_k».proof.Proof.Dequant
public import Idealize.ShloMosaic.Lib.Pipeline.ValueKit
public import Idealize.ShloMosaic.Lib.VecWindow

@[expose] public section

set_option maxRecDepth 16384

noncomputable section

namespace Cert.MlpInIdeal.Run

open Idealize.ShloMosaic Idealize.ShloMosaic.TcCoe Idealize.ShloMosaic.Tactic
open Idealize.SL Idealize.SL.Sem
open Cert.MlpInIdeal Cert.MlpInIdeal.Gen

variable {F : FTy → Type} [FloatOps F]

/-- The offsets of a whole-block access are zero. -/
theorem hz : (![0, 0] : Fin 2 → ℕ) = fun _ => 0 := by decide

/-- A block of weights as the body multiplies by them: the unpacked rows, each times its group's scale. -/
def weights (w : FVec F S3072x512 .bf16) (s : FVec F S24x512 .bf16) : FVec F S3072x512 .bf16 :=
  concatenate S3072x512 0 (List.ofFn fun n : Fin 24 =>
    (⟨S128x512, Dequant.grouped (G := 24) (N := 512) w s (by decide) (by decide) broadcasts_S1x512_S128x512 n⟩
      : (s : Shape) × (s.Idx → F .bf16)))
    (by rw [Dequant.grouped_shapes]; decide)

/-- One slice of the gate before its activation. -/
def gate (a : FVec F S256x3072 .bf16) (xs : Vec F S256x1 .f32) (wg : Vec F S1536x512 .i8) (sg : Vec F S24x512 .f32) : FVec F S256x512 .f32 :=
  mulf (matmul dot_S256x3072_S3072x512_S256x512_1_0_0_1_n_n none a (weights (k0_pay36 wg) (k0_pay37 sg)) (constant S256x512 .f32 0x00000000#32))
    (broadcastTo S256x512 xs broadcasts_S256x1_S256x512)

/-- One slice of the hidden activations, from the left operand, its scales and the two blocks of weights. -/
def slice (a : FVec F S256x3072 .bf16) (xs : Vec F S256x1 .f32) (wg : Vec F S1536x512 .i8) (sg : Vec F S24x512 .f32)
    (wu : Vec F S1536x512 .i8) (su : Vec F S24x512 .f32) : FVec F S1x256x512 .f32 :=
  k0_pay6 a (gate a xs wg sg) (weights (k0_pay62 wu) (k0_pay63 su)) xs

/-- One plane of the gathered slices. -/
def plane (d : Vec F S16x256x512 .f32) (k : Fin 16) : Vec F S1x256x512 .f32 :=
  fun y => d (ValueIdx.ix3 k (y 1) (y 2))

/-- Sixteen slices gathered into one array. -/
def gather (h : Fin 16 → Vec F S1x256x512 .f32) : Vec F S16x256x512 .f32 :=
  fun y => h (y 0) (ValueIdx.ix3 0 (y 1) (y 2))

/-- An array is its planes gathered. -/
theorem eq_gather (d : Vec F S16x256x512 .f32) (h : Fin 16 → Vec F S1x256x512 .f32) (hd : ∀ k, plane d k = h k) : d = gather h := by
  funext y
  refine Eq.trans ?_ (congrFun (hd (y 0)) (ValueIdx.ix3 0 (y 1) (y 2)))
  refine congrArg d (funext fun a => ?_)
  fin_cases a <;> rfl

/-- What a load of one plane reads. -/
theorem ld_plane (d : Vec F S16x256x512 .f32) (n : ℕ) (inb : ∀ a, (![n, 0, 0] : Fin 3 → ℕ) a + S1x256x512.size a ≤ S16x256x512.size a) :
    (View.ld (Val := Elt F) d (Rect.unit (s := S16x256x512) ![n, 0, 0] S1x256x512.size inb) : Vec F S1x256x512 .f32)
      = plane d ⟨n, Nat.lt_of_succ_le (inb 0)⟩ := by
  funext y
  refine congrArg d (funext fun a => Fin.ext ?_)
  have h0 : (y 0).val < 1 := (y 0).isLt
  fin_cases a
  · show n + 1 * (y 0).val = n; omega
  · show 0 + 1 * (y 1).val = (y 1).val; omega
  · show 0 + 1 * (y 2).val = (y 2).val; omega

/-- A slice stored at position `n`: the planes of what the array then holds. -/
theorem plane_put (d : Vec F S16x256x512 .f32) (n : Fin 16) (w : Vec F S1x256x512 .f32) (k : Fin 16) :
    plane (VecWindow.put (s := S16x256x512) d ![n.val, 0, 0] S1x256x512.size w) k = if k = n then w else plane d k := by
  funext y
  unfold plane VecWindow.put
  by_cases hk : k = n
  · subst hk
    rw [if_pos rfl, dif_pos (by
      intro a
      have h1 := (y 1).isLt
      have h2 := (y 2).isLt
      fin_cases a
      · exact ⟨Nat.le_refl _, Nat.lt_succ_self _⟩
      · exact ⟨Nat.zero_le _, by show (y 1).val < 0 + 256; have : (y 1).val < 256 := h1; omega⟩
      · exact ⟨Nat.zero_le _, by show (y 2).val < 0 + 512; have : (y 2).val < 512 := h2; omega⟩)]
    refine congrArg w (funext fun a => Fin.ext ?_)
    have h0 : (y 0).val < 1 := (y 0).isLt
    fin_cases a
    · show k.val - k.val = (y 0).val; omega
    · show (y 1).val - 0 = (y 1).val; omega
    · show (y 2).val - 0 = (y 2).val; omega
  · rw [if_neg hk, dif_neg]
    intro h
    have h0 : n.val ≤ k.val ∧ k.val < n.val + 1 := h 0
    exact hk (Fin.ext (by omega))

/-- The greatest magnitude of each row over the sixteen planes, times 1/448. -/
def level (d : Vec F S16x256x512 .f32) : FVec F S256x1 .f32 :=
  k0_pay10 (k0_pay9 (k0_pay8 (plane d 0) (plane d 1) (plane d 2) (plane d 3) (plane d 4) (plane d 5))
    (plane d 6) (plane d 7) (plane d 8) (plane d 9) (plane d 10) (plane d 11)) (plane d 12) (plane d 13) (plane d 14) (plane d 15)

/-- The exponent field of each row's level, found by trying its eight bits from the top. -/
def biased (t : FVec F S256x1 .f32) : IVec S256x1 32 :=
  let b := select (cmpf .oge t (bitcastToFloat .f32 (shli (addi (broadcast S256x1 0#32) (broadcast S256x1 128#32)) (broadcast S256x1 23#32))))
    (addi (broadcast S256x1 0#32) (broadcast S256x1 128#32)) (broadcast S256x1 0#32)
  k0_pay14 t b (addi b (broadcast S256x1 64#32)) (bitcastToFloat .f32 (shli (addi b (broadcast S256x1 64#32)) (broadcast S256x1 23#32)))

/-- Each row's scale. -/
def scales (d : Vec F S16x256x512 .f32) : FVec F S256x1 .f32 :=
  k0_pay17 (biased (level d)) (cmpi .eq (biased (level d)) (broadcast S256x1 0#32)) 255#32

/-- Each row's inverse scale. -/
def inverses (d : Vec F S16x256x512 .f32) : FVec F S256x1 .f32 :=
  k0_pay18 (biased (level d)) (cmpi .eq (biased (level d)) (broadcast S256x1 0#32)) 255#32

/-- The stores of the codes, last first: each plane times the inverse scales, clipped, at its 512 columns. -/
def codeStores (d : Vec F S16x256x512 .f32) : List (View.Piece (Elt F) S256x8192 .fp8e4m3) :=
  (List.ofFn fun k : Fin 16 => (⟨Rect.unit (s := S256x8192) ![0, 512 * k.val] S256x512.size (by
      intro a; fin_cases a
      · show 0 + 256 ≤ 256; omega
      · show 512 * k.val + 512 ≤ 8192; omega), k0_pay7 (inverses d) (plane d k)⟩ : View.Piece (Elt F) S256x8192 .fp8e4m3)).reverse

/-- A load of a whole block of packed weights. -/
theorem readAt_weights (v : Memref sig .tc .vmem S1536x512 .i8) (hv : v.IsWhole) (x : Vec F S1536x512 .i8) :
    View.readAt (Elt F) v.view (Rect.unit (s := S1536x512) ![0, 0] S1536x512.size inb_S1536x512_S1536x512_0_0).toLoadRect (hv.unread x) = x := by
  rw [View.readAt_eq_ld, hv.read_unread, View.ld_unit_zero (S := S1536x512) hz]

/-- A load of a whole block of group scales. -/
theorem readAt_scales (v : Memref sig .tc .vmem S24x512 .f32) (hv : v.IsWhole) (x : Vec F S24x512 .f32) :
    View.readAt (Elt F) v.view (Rect.unit (s := S24x512) ![0, 0] S24x512.size inb_S24x512_S24x512_0_0).toLoadRect (hv.unread x) = x := by
  rw [View.readAt_eq_ld, hv.read_unread, View.ld_unit_zero (S := S24x512) hz]

section

variable (c : Dev nD) (i : grid0.Coords)
  (arg1 : Memref sig .tc .vmem S256x3072 .fp8e4m3) (harg1 : arg1.IsWhole)
  (arg2 : Memref sig .tc .vmem S256x1 .f32) (harg2 : arg2.IsWhole)
  (arg3 : Memref sig .tc .vmem S1536x512 .i8) (harg3 : arg3.IsWhole)
  (arg4 : Memref sig .tc .vmem S24x512 .f32) (harg4 : arg4.IsWhole)
  (arg5 : Memref sig .tc .vmem S1536x512 .i8) (harg5 : arg5.IsWhole)
  (arg6 : Memref sig .tc .vmem S24x512 .f32) (harg6 : arg6.IsWhole)
  (arg7 : Memref sig .tc .vmem S256x8192 .fp8e4m3) (harg7 : arg7.IsWhole)
  (arg8 : Memref sig .tc .vmem S256x1 .f32) (harg8 : arg8.IsWhole)
  (arg9 : Memref sig .tc .vmem S256x3072 .bf16) (harg9 : arg9.IsWhole)
  (arg10 : Memref sig .tc .vmem S16x256x512 .f32) (harg10 : arg10.IsWhole)
set_option maxHeartbeats 4000000 in
/-- A point in the middle stores its slice. -/
theorem middle_slice (hc0 : ¬isFirst i) (hc1 : ¬isLast i) (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) :
    (middle c i arg1 harg1 arg2 harg2 arg3 harg3 arg4 harg4 arg5 harg5 arg6 harg6 arg7 harg7 arg8 harg8 arg9 harg9 arg10 harg10 hc0 hc1 x0 x1 x2 x3 x4 x5 xs0).1
      = [⟨Rect.unit (s := S16x256x512) (k0_off1 i) S1x256x512.size (k0_off1_inb i), slice xs0 x1 x2 x3 x4 x5⟩] := by
  unfold middle
  dsimp only
  sl_unfold_words
  rw [readAt_weights arg5 harg5 x4, readAt_scales arg6 harg6 x5]
  simp only [View.readAt_eq_ld, harg2.read_unread, harg3.read_unread, harg4.read_unread, harg9.read_unread, View.ld_unit_zero (S := S256x3072) hz, View.ld_unit_zero (S := S256x1) hz, View.ld_unit_zero (S := S1536x512) hz, View.ld_unit_zero (S := S24x512) hz]
  unfold slice
  refine congrArg₂ (fun g u => [(⟨Rect.unit (s := S16x256x512) (k0_off1 i) S1x256x512.size (k0_off1_inb i), k0_pay6 xs0 g u x1⟩ : View.Piece (Elt F) S16x256x512 .f32)]) ?_ ?_
  · unfold gate weights k0_pay61
    rfl
  · unfold weights
    rfl

/-- The first point stores the left operand, the codes in bfloat16. -/
theorem first_left (hc0 : isFirst i) (hc1 : ¬isLast i) (x0 : Vec F S256x3072 .fp8e4m3) (x1 : Vec F S256x1 .f32) (x2 : Vec F S1536x512 .i8) (x3 : Vec F S24x512 .f32) (x4 : Vec F S1536x512 .i8) (x5 : Vec F S24x512 .f32) :
    (first c i arg1 harg1 arg2 harg2 arg3 harg3 arg4 harg4 arg5 harg5 arg6 harg6 arg7 harg7 arg8 harg8 arg9 harg9 arg10 harg10 hc0 hc1 x0 x1 x2 x3 x4 x5).1
      = [⟨Rect.unit (s := S256x3072) ![0, 0] S256x3072.size inb_S256x3072_S256x3072_0_0, k0_pay35 x0⟩] := by
  unfold first
  dsimp only
  sl_unfold_words
  simp only [View.readAt_eq_ld, harg1.read_unread, View.ld_unit_zero (S := S256x3072) hz]

set_option maxHeartbeats 4000000 in
/-- The first point stores its slice, from the left operand it has just stored. -/
theorem first_slice (hc0 : isFirst i) (hc1 : ¬isLast i) (x0 : Vec F S256x3072 .fp8e4m3) (x1 : Vec F S256x1 .f32) (x2 : Vec F S1536x512 .i8) (x3 : Vec F S24x512 .f32) (x4 : Vec F S1536x512 .i8) (x5 : Vec F S24x512 .f32) :
    (first c i arg1 harg1 arg2 harg2 arg3 harg3 arg4 harg4 arg5 harg5 arg6 harg6 arg7 harg7 arg8 harg8 arg9 harg9 arg10 harg10 hc0 hc1 x0 x1 x2 x3 x4 x5).2.1
      = [⟨Rect.unit (s := S16x256x512) (k0_off1 i) S1x256x512.size (k0_off1_inb i), slice (k0_pay35 x0) x1 x2 x3 x4 x5⟩] := by
  unfold first
  dsimp only
  sl_unfold_words
  rw [readAt_weights arg5 harg5 x4, readAt_scales arg6 harg6 x5]
  simp only [View.readCov_unit_zero (S := S256x3072) _ hz, View.readAt_eq_ld, harg1.read_unread, harg2.read_unread, harg3.read_unread, harg4.read_unread, View.ld_unit_zero (S := S256x3072) hz, View.ld_unit_zero (S := S256x1) hz, View.ld_unit_zero (S := S1536x512) hz, View.ld_unit_zero (S := S24x512) hz]
  unfold slice
  refine congrArg₂ (fun g u => [(⟨Rect.unit (s := S16x256x512) (k0_off1 i) S1x256x512.size (k0_off1_inb i), k0_pay6 (k0_pay35 x0) g u x1⟩ : View.Piece (Elt F) S16x256x512 .f32)]) ?_ ?_
  · unfold gate weights k0_pay61
    rfl
  · unfold weights
    rfl

set_option maxHeartbeats 4000000 in
/-- The last point stores its slice. -/
theorem last_slice (hc0 : ¬isFirst i) (hc1 : isLast i) (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) (xs1 : Vec F S16x256x512 .f32) :
    (last c i arg1 harg1 arg2 harg2 arg3 harg3 arg4 harg4 arg5 harg5 arg6 harg6 arg7 harg7 arg8 harg8 arg9 harg9 arg10 harg10 hc0 hc1 x0 x1 x2 x3 x4 x5 xs0 xs1).2.2.1
      = [⟨Rect.unit (s := S16x256x512) (k0_off1 i) S1x256x512.size (k0_off1_inb i), slice xs0 x1 x2 x3 x4 x5⟩] := by
  unfold last
  dsimp only
  sl_unfold_words
  rw [readAt_weights arg5 harg5 x4, readAt_scales arg6 harg6 x5]
  simp only [View.readAt_eq_ld, harg2.read_unread, harg3.read_unread, harg4.read_unread, harg9.read_unread, View.ld_unit_zero (S := S256x3072) hz, View.ld_unit_zero (S := S256x1) hz, View.ld_unit_zero (S := S1536x512) hz, View.ld_unit_zero (S := S24x512) hz]
  unfold slice
  refine congrArg₂ (fun g u => [(⟨Rect.unit (s := S16x256x512) (k0_off1 i) S1x256x512.size (k0_off1_inb i), k0_pay6 xs0 g u x1⟩ : View.Piece (Elt F) S16x256x512 .f32)]) ?_ ?_
  · unfold gate weights k0_pay61
    rfl
  · unfold weights
    rfl

end

end Cert.MlpInIdeal.Run

end
-- ==== Proof.MlpInLast.lean ====
/-
  What the last point of `mlp_in` stores besides its slice: the scales and the codes of all sixteen slices together.
-/
module

public import proofs.«01_k».proof.Proof.MlpInSlices
public import Idealize.ShloMosaic.Lib.Pipeline.ValueKit
public import Idealize.ShloMosaic.Lib.VecWindow

@[expose] public section

set_option maxRecDepth 16384

noncomputable section

namespace Cert.MlpInIdeal.Run

open Idealize.ShloMosaic Idealize.ShloMosaic.TcCoe Idealize.ShloMosaic.Tactic
open Idealize.SL Idealize.SL.Sem
open Cert.MlpInIdeal Cert.MlpInIdeal.Gen

variable {F : FTy → Type} [FloatOps F]

section

variable (c : Dev nD) (i : grid0.Coords)
  (arg1 : Memref sig .tc .vmem S256x3072 .fp8e4m3) (harg1 : arg1.IsWhole)
  (arg2 : Memref sig .tc .vmem S256x1 .f32) (harg2 : arg2.IsWhole)
  (arg3 : Memref sig .tc .vmem S1536x512 .i8) (harg3 : arg3.IsWhole)
  (arg4 : Memref sig .tc .vmem S24x512 .f32) (harg4 : arg4.IsWhole)
  (arg5 : Memref sig .tc .vmem S1536x512 .i8) (harg5 : arg5.IsWhole)
  (arg6 : Memref sig .tc .vmem S24x512 .f32) (harg6 : arg6.IsWhole)
  (arg7 : Memref sig .tc .vmem S256x8192 .fp8e4m3) (harg7 : arg7.IsWhole)
  (arg8 : Memref sig .tc .vmem S256x1 .f32) (harg8 : arg8.IsWhole)
  (arg9 : Memref sig .tc .vmem S256x3072 .bf16) (harg9 : arg9.IsWhole)
  (arg10 : Memref sig .tc .vmem S16x256x512 .f32) (harg10 : arg10.IsWhole)
/-- A load of one slice, its extents written out, is that plane. -/
theorem ld_plane' (d : Vec F S16x256x512 .f32) (n : ℕ) (inb : ∀ a, (![n, 0, 0] : Fin 3 → ℕ) a + (![1, 256, 512] : Fin 3 → ℕ) a ≤ S16x256x512.size a) :
    (View.ld (Val := Elt F) d (Rect.unit (s := S16x256x512) ![n, 0, 0] ![1, 256, 512] inb) : Vec F S1x256x512 .f32)
      = plane d ⟨n, Nat.lt_of_succ_le (inb 0)⟩ := ld_plane d n inb

set_option maxHeartbeats 4000000 in
/-- The last point stores the scales of what the slices then hold. -/
theorem last_scales (hc0 : ¬isFirst i) (hc1 : isLast i) (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) (xs1 : Vec F S16x256x512 .f32)
    (d : Vec F S16x256x512 .f32) (hd : arg10.view.read (Elt F) (arg10.view.writes (Elt F) (harg10.unread xs1) (last c i arg1 harg1 arg2 harg2 arg3 harg3 arg4 harg4 arg5 harg5 arg6 harg6 arg7 harg7 arg8 harg8 arg9 harg9 arg10 harg10 hc0 hc1 x0 x1 x2 x3 x4 x5 xs0 xs1).2.2.1) = d) :
    (last c i arg1 harg1 arg2 harg2 arg3 harg3 arg4 harg4 arg5 harg5 arg6 harg6 arg7 harg7 arg8 harg8 arg9 harg9 arg10 harg10 hc0 hc1 x0 x1 x2 x3 x4 x5 xs0 xs1).2.1 = [⟨Rect.unit (s := S256x1) ![0, 0] S256x1.size inb_S256x1_S256x1_0_0, scales d⟩] := by
  revert hd
  unfold last
  dsimp only
  sl_unfold_words
  intro hd
  simp only [View.readAt_eq_ld] at hd ⊢
  simp only [hd, ld_plane']
  sl_kernel_rfl

set_option maxHeartbeats 4000000 in
/-- The last point stores the codes of what the slices then hold. -/
theorem last_codes (hc0 : ¬isFirst i) (hc1 : isLast i) (x0 : Vec F S256x3072 .fp8e4m3) (x1 : Vec F S256x1 .f32) (x2 : Vec F S1536x512 .i8) (x3 : Vec F S24x512 .f32) (x4 : Vec F S1536x512 .i8) (x5 : Vec F S24x512 .f32) (xs0 : Vec F S256x3072 .bf16) (xs1 : Vec F S16x256x512 .f32)
    (d : Vec F S16x256x512 .f32) (hd : arg10.view.read (Elt F) (arg10.view.writes (Elt F) (harg10.unread xs1) (last c i arg1 harg1 arg2 harg2 arg3 harg3 arg4 harg4 arg5 harg5 arg6 harg6 arg7 harg7 arg8 harg8 arg9 harg9 arg10 harg10 hc0 hc1 x0 x1 x2 x3 x4 x5 xs0 xs1).2.2.1) = d) :
    (last c i arg1 harg1 arg2 harg2 arg3 harg3 arg4 harg4 arg5 harg5 arg6 harg6 arg7 harg7 arg8 harg8 arg9 harg9 arg10 harg10 hc0 hc1 x0 x1 x2 x3 x4 x5 xs0 xs1).1 = codeStores d := by
  revert hd
  unfold last
  dsimp only
  sl_unfold_words
  intro hd
  simp only [View.readAt_eq_ld] at hd ⊢
  simp only [hd, ld_plane']
  sl_kernel_rfl

end

/-- The codes of sixteen slices side by side, each at its 512 columns. -/
def codes (d : Vec F S16x256x512 .f32) : FVec F S256x8192 .fp8e4m3 := fun y =>
  k0_pay7 (inverses d) (plane d ⟨(y 1).val / 512, Nat.div_lt_of_lt_mul (y 1).isLt⟩)
    (ValueIdx.ix2 (y 0) ⟨(y 1).val % 512, Nat.mod_lt _ (by decide)⟩)

/-- The columns of slice `k` lie in the array of codes. -/
theorem codes_inb (k : Fin 16) : ∀ a, (![0, 512 * k.val] : Fin S256x8192.rank → ℕ) a + S256x512.size a ≤ S256x8192.size a := by
  intro a; fin_cases a
  · show 0 + 256 ≤ 256; omega
  · show 512 * k.val + 512 ≤ 8192; omega

/-- Storing the codes slice by slice leaves them side by side. -/
theorem read_codes (v : View sig .tc .vmem S256x8192 .fp8e4m3) (f : v.ty.Contents (Elt F)) (d : Vec F S16x256x512 .f32) :
    v.read (Elt F) (v.writes (Elt F) f (codeStores d)) = codes d := by
  funext y
  refine View.read_writes_apply_of_pieces v f (codes d) (codeStores d) (fun p hp x => ?_) y ?_
  · obtain ⟨k, rfl⟩ := List.mem_ofFn.mp (List.mem_reverse.mp hp)
    have hx : (x 1).val < 512 := (x 1).isLt
    have h1 : (⟨(512 * k.val + 1 * (x 1).val) / 512, by omega⟩ : Fin 16) = k := Fin.ext (by show (512 * k.val + 1 * (x 1).val) / 512 = k.val; omega)
    refine (congrArg₂ (k0_pay7 (inverses d)) (congrArg (plane d) h1) (funext fun a => Fin.ext ?_)).symm
    fin_cases a
    · show 0 + 1 * (x 0).val = (x 0).val; omega
    · show (512 * k.val + 1 * (x 1).val) % 512 = (x 1).val; omega
  · have hy : (y 1).val < 8192 := (y 1).isLt
    refine ⟨_, List.mem_reverse.mpr (List.mem_ofFn.mpr ⟨⟨(y 1).val / 512, by omega⟩, rfl⟩), ?_⟩
    refine (Rect.mem_set_unit (inb := codes_inb _)).mpr fun a => ?_
    have hy0 : (y 0).val < 256 := (y 0).isLt
    fin_cases a
    · show 0 ≤ (y 0).val ∧ (y 0).val < 0 + 256; omega
    · show 512 * ((y 1).val / 512) ≤ (y 1).val ∧ (y 1).val < 512 * ((y 1).val / 512) + 512; omega

/-- Storing the scales leaves them. -/
theorem read_scales (v : View sig .tc .vmem S256x1 .f32) (f : v.ty.Contents (Elt F)) (x : FVec F S256x1 .f32) :
    v.read (Elt F) (v.writes (Elt F) f [⟨Rect.unit (s := S256x1) ![0, 0] S256x1.size inb_S256x1_S256x1_0_0, x⟩]) = x := by
  exact View.read_writes_full v f _ x []

end Cert.MlpInIdeal.Run

end
-- ==== Proof.MlpInFrame.lean ====
/-
  The frame of `mlp_in`, and what its two results hold after a run: the body at each of the sixteen points, the invariant
  that carries the slices stored so far, and the launch.
-/
module

public import proofs.«01_k».proof.Proof.MlpInLast

@[expose] public section

set_option maxRecDepth 16384

noncomputable section

namespace Cert.MlpInIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpInIdeal Cert.MlpInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Each window's current staging memref at point `t`, spelled as the pipeline passes it (`bodyAt0`), and its wholeness. -/
abbrev ms0_0 (t : Fin cfg0.N) : Memref sig .tc .vmem S256x3072 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3072 .bf16 := Memref.whole cc0_scratch0
abbrev scM0_1 : Memref sig .tc .vmem S16x256x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the sixteen points leave -/

/-- The point at position `k`. -/
abbrev pt (k : Fin 16) : Fin cfg0.N := ⟨k.val, lt_of_lt_of_eq k.isLt N_0.symm⟩

/-- The left operand every point multiplies by, as the first point stores it. -/
def left (c : Dev nD) : FVec F S256x3072 .bf16 := k0_pay35 (iblk m c 0 (pt 0))

/-- The slice of hidden activations point `k` stores. -/
def hidden (c : Dev nD) (k : Fin 16) : FVec F S1x256x512 .f32 :=
  slice (left m c) (iblk m c 1 (pt k)) (iblk m c 2 (pt k)) (iblk m c 3 (pt k)) (iblk m c 4 (pt k)) (iblk m c 5 (pt k))

/-- All sixteen slices. -/
def hiddens (c : Dev nD) : FVec F S16x256x512 .f32 := gather (hidden m c)

/-- Where point `t` stores its slice. -/
theorem off_eq : ∀ t : Fin cfg0.N, k0_off1 (grid0.coords t) = ![t.val, 0, 0] := by decide +kernel

/-- The planes after point `t` has stored its slice over an array whose earlier planes are the earlier slices. -/
theorem planes_put (c : Dev nD) (t : Fin cfg0.N) (d : Vec F S16x256x512 .f32) (hd : ∀ k : Fin 16, k.val < t.val → plane d k = hidden m c k)
    (a : FVec F S256x3072 .bf16) (ha : a = left m c) (k : Fin 16) (hk : k.val ≤ t.val) :
    plane (VecWindow.put (s := S16x256x512) d ![t.val, 0, 0] S1x256x512.size
      (slice a (iblk m c 1 t) (iblk m c 2 t) (iblk m c 3 t) (iblk m c 4 t) (iblk m c 5 t))) k = hidden m c k := by
  subst ha
  refine (plane_put d ⟨t.val, lt_of_lt_of_eq t.isLt N_0⟩ _ k).trans ?_
  by_cases h : k = ⟨t.val, lt_of_lt_of_eq t.isLt N_0⟩
  · rw [if_pos h]; subst h; rfl
  · rw [if_neg h]; exact hd k (lt_of_le_of_ne hk fun e => h (Fin.ext e))

/-- What storing one slice leaves, read off the buffer. -/
theorem read_slice (t : Fin cfg0.N) (v : Memref sig .tc .vmem S16x256x512 .f32) (hv : v.IsWhole) (d : Vec F S16x256x512 .f32) (w : Vec F S1x256x512 .f32) :
    v.view.read (Elt F) (v.view.writes (Elt F) (hv.unread d) [⟨Rect.unit (s := S16x256x512) (k0_off1 (grid0.coords t)) S1x256x512.size (k0_off1_inb (grid0.coords t)), w⟩])
      = VecWindow.put (s := S16x256x512) d ![t.val, 0, 0] S1x256x512.size w := by
  refine (View.read_writes_cons_put v.view (hv.unread d) (size := S1x256x512.size) (k0_off1_inb (grid0.coords t)) w [] (off_eq t)).trans ?_
  exact congrArg (fun e => VecWindow.put (s := S16x256x512) e ![t.val, 0, 0] S1x256x512.size w) (hv.read_unread d)

/-- The invariant before position `n`: the scratch buffers at anything before the first point; afterwards the left operand
    stored, the slices of the points so far stored, the rest of that array at anything. -/
def PhiS (c : Dev nD) : (n : ℕ) → n ≤ cfg0.N → sProp 𝕄
  | 0, _ => Pipeline.ΦA spec0 c
  | n + 1, _ => iprop(iprop(owns (c : Thread nD τ) scM0_0 fullShare (left m c)
      ∗ (∃ d, ⌜∀ k : Fin 16, k.val < n + 1 → plane d k = hidden m c k⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (left m c)
      ∗ (∃ d, ⌜∀ k : Fin 16, k.val < n + 1 → plane d k = hidden m c k⌝ ∗ owns (c : Thread nD τ) scM0_1 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (left m c)
      ∗ (∃ d, ⌜∀ k : Fin 16, k.val < n → plane d k = hidden m c k⌝ ∗ owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them; after the body each input's buffer
    at its block, the codes and the scales those of all sixteen slices (said of the last point, the only one that stores
    them); the invariant `PhiS`; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codes (hiddens m c)
    | ⟨7, _⟩ => scales (hiddens m c)
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codes (hiddens m c) := by dsimp only [dats]
theorem after0_7 (c : Dev nD) (t : Fin cfg0.N) : (dats m 0 c).after 7 t = scales (hiddens m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- Before the last point the outputs are handed back as they came. -/
theorem leaves_idle (c : Dev nD) (t : Fin cfg0.N) (h : t.val ≠ 15) :
    (dats m 0 c).leavesExact 6 t = iprop(∃ d, owns (c : Thread nD τ) (ms0_6 t) fullShare ((dats m 0 c).before 6 t d))
    ∧ (dats m 0 c).leavesExact 7 t = iprop(∃ d, owns (c : Thread nD τ) (ms0_7 t) fullShare ((dats m 0 c).before 7 t d)) := by
  have hN : t.val < 16 := lt_of_lt_of_eq t.isLt N_0
  have hi : (!(k0_cond2 (grid0.coords t) == 1#1)) = true := by
    rw [Bool.not_eq_true', beq_eq_false_iff_ne]; exact fun e => h ((isLast_iff t).mp e)
  exact ⟨(dats m 0 c).leavesExact_idle 6 t hi (Bool.eq_false_iff.mpr fun e => h (by have := (flush0_6 t).mp e; omega)),
    (dats m 0 c).leavesExact_idle 7 t hi (Bool.eq_false_iff.mpr fun e => h (by have := (flush0_7 t).mp e; omega))⟩

/-- At the last point the outputs hold the codes and the scales of all sixteen slices. -/
theorem leaves_last (c : Dev nD) (t : Fin cfg0.N) (h : t.val = 15) :
    (dats m 0 c).leavesExact 6 t = owns (c : Thread nD τ) (ms0_6 t) fullShare (codes (hiddens m c))
    ∧ (dats m 0 c).leavesExact 7 t = owns (c : Thread nD τ) (ms0_7 t) fullShare (scales (hiddens m c)) := by
  have hi : (!(k0_cond2 (grid0.coords t) == 1#1)) = false := by
    rw [Bool.not_eq_false', beq_iff_eq]; exact (isLast_iff t).mpr h
  have h6 : cfg0.idle 6 (grid0.coords t) = false := hi
  have h7 : cfg0.idle 7 (grid0.coords t) = false := hi
  constructor
  · unfold Dat.leavesExact; rw [h6, after0_6]
  · unfold Dat.leavesExact; rw [h7, after0_7]

set_option maxHeartbeats 9600000 in
/-- The body at any point: the first stores the left operand and its slice, a middle one its slice, the last its slice and
    then the codes and scales of all of them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt N_0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val = 0
  · have h1 : t.val ≠ 15 := by omega
    have hc0 : isFirst (grid0.coords t) := (isFirst_iff t).mpr h0
    have hc1 : ¬isLast (grid0.coords t) := fun e => h1 ((isLast_iff t).mp e)
    have ht : t = pt 0 := Fin.ext h0
    rw [PhiS_castSucc m c t, PhiS_zero m c _ _ h0, PhiA0_eq, (leaves_idle m c t h1).1, (leaves_idle m c t h1).2]
    iintro ⟨⟨⟨HS0, ⟨%d, HS1⟩⟩, Hg⟩, Ho, ⟨%d0, H0⟩, ⟨%d1, H1⟩, ⟨%d2, H2⟩, ⟨%d3, H3⟩, ⟨%d4, H4⟩, ⟨%d5, H5⟩, H6, H7⟩
    have hl : left m c = k0_pay35 (iblk m c 0 t) := by rw [left, ht]
    have h8 : ∀ f, (scM0_0 : Memref sig .tc .vmem S256x3072 .bf16).view.read (Elt F) (scM0_0.view.writes (Elt F) f
        (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t)).1) = left m c := fun f => by
      rw [first_left, hl]
      exact View.read_writes_full _ f _ _ []
    have hr : (scM0_1 : Memref sig .tc .vmem S16x256x512 .f32).view.read (Elt F) (scM0_1.view.writes (Elt F) ((Memref.isWhole_whole _).unread d)
        (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t)).2.1) = VecWindow.put (s := S16x256x512) d ![t.val, 0, 0] S1x256x512.size
        (slice (left m c) (iblk m c 1 t) (iblk m c 2 t) (iblk m c 3 t) (iblk m c 4 t) (iblk m c 5 t)) := by
      rw [first_slice, hl]
      exact read_slice t _ _ d _
    iapply ((first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t)).2.2 d Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, HS1⟩
    isplitl [HS0 HS1 Hg]
    · isplitl [HS0 HS1]
      · isplitl [HS0]
        · unfold owns; iexists _; isplitr
          swap; · iexact HS0
          ipureintro
          exact h8 _
        iexists _; isplitr
        swap
        · unfold owns; iexists _; isplitr
          swap; · iexact HS1
          ipureintro
          exact hr
        ipureintro
        exact fun k hk => planes_put m c t d (fun k h => absurd h (by omega)) _ rfl k (Nat.le_of_lt_succ hk)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  by_cases h1 : t.val = 15
  · have hc0 : ¬isFirst (grid0.coords t) := fun e => h0 ((isFirst_iff t).mp e)
    have hc1 : isLast (grid0.coords t) := (isLast_iff t).mpr h1
    rw [PhiS_castSucc m c t, PhiS_pos m c _ _ h0, (leaves_last m c t h1).1, (leaves_last m c t h1).2]
    iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs : ∀ k : Fin 16, k.val ≤ t.val → plane (VecWindow.put (s := S16x256x512) d ![t.val, 0, 0] S1x256x512.size
        (slice (left m c) (iblk m c 1 t) (iblk m c 2 t) (iblk m c 3 t) (iblk m c 4 t) (iblk m c 5 t))) k = hidden m c k :=
      planes_put m c t d hd _ rfl
    have hD := eq_gather _ _ fun k => hs k (by omega)
    have hr : (scM0_1 : Memref sig .tc .vmem S16x256x512 .f32).view.read (Elt F) (scM0_1.view.writes (Elt F) ((Memref.isWhole_whole _).unread d)
        (last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t) (left m c) d).2.2.1) = hiddens m c := by
      rw [last_slice]
      exact (read_slice t _ _ d _).trans hD
    iapply ((last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t) (left m c) d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%e6, H6⟩, ⟨%e7, H7⟩, HS0, HS1⟩
    isplitl [HS0 HS1 Hg]
    · isplitl [HS0 HS1]
      · isplitl [HS0]
        · iexact HS0
        iexists _; isplitr
        swap
        · unfold owns; iexists _; isplitr
          swap; · iexact HS1
          ipureintro
          exact hr
        ipureintro
        exact fun k hk => (congrArg (fun e => plane e k) hD).symm.trans (hs k (Nat.le_of_lt_succ hk))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      rw [last_codes (d := hiddens m c) (hd := hr)]
      exact read_codes _ _ _
    unfold owns; iexists _; isplitr
    swap; · iexact H7
    ipureintro
    rw [last_scales (d := hiddens m c) (hd := hr)]
    exact read_scales _ _ _
  · have hc0 : ¬isFirst (grid0.coords t) := fun e => h0 ((isFirst_iff t).mp e)
    have hc1 : ¬isLast (grid0.coords t) := fun e => h1 ((isLast_iff t).mp e)
    rw [PhiS_castSucc m c t, PhiS_pos m c _ _ h0, (leaves_idle m c t h1).1, (leaves_idle m c t h1).2]
    iintro ⟨⟨⟨HS0, ⟨%d, %hd, HS1⟩⟩, Hg⟩, Ho, ⟨%d0, H0⟩, ⟨%d1, H1⟩, ⟨%d2, H2⟩, ⟨%d3, H3⟩, ⟨%d4, H4⟩, ⟨%d5, H5⟩, H6, H7⟩
    have hr : (scM0_1 : Memref sig .tc .vmem S16x256x512 .f32).view.read (Elt F) (scM0_1.view.writes (Elt F) ((Memref.isWhole_whole _).unread d)
        (middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t) (left m c)).1) = VecWindow.put (s := S16x256x512) d ![t.val, 0, 0] S1x256x512.size
        (slice (left m c) (iblk m c 1 t) (iblk m c 2 t) (iblk m c 3 t) (iblk m c 4 t) (iblk m c 5 t)) := by
      rw [middle_slice]
      exact read_slice t _ _ d _
    iapply ((middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk m c 0 t) (iblk m c 1 t) (iblk m c 2 t) (iblk m c 3 t) (iblk m c 4 t) (iblk m c 5 t) (left m c)).2 d Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexists _; isplitr
        swap
        · unfold owns; iexists _; isplitr
          swap; · iexact HS1
          ipureintro
          exact hr
        ipureintro
        exact fun k hk => planes_put m c t d hd _ rfl k (Nat.le_of_lt_succ hk)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d, %hd, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run of @main from zero counters ends with every array of the pipeline at what the proof data says and every other
    buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: every run from zero counters ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MlpInIdeal.Run

end
-- ==== Proof.Scale.lean ====
/- The power-of-two scale of the quantiser, one element at a time. A row's level `t` (its greatest magnitude over
   448) gets a scale and an inverse scale. The kernel finds the exponent field of `t` by a binary search over its
   eight bits and builds both numbers from bit patterns; the reference takes the least power of two above `t` and
   divides. `scale_eq` and `inverse_eq` say that both give the same extended real at every level. -/
module

public import Idealize.ShloMosaic.Lib.Pointwise
public import Idealize.ShloMosaic.Lib.ValueLayout

@[expose] public section

noncomputable section

namespace Cert.Scale

open Idealize.ShloMosaic

/-- The number whose bit pattern has exponent field `k` and zeros elsewhere. -/
def power (k : Nat) : EReal := Ideal.ofBits .f32 (BitVec.ofNat 32 k <<< 23)

/-- One step of the search: the field `b` grows by `s` when the power of two with that field is at most `t`. -/
def step (t : EReal) (s b : BitVec 32) : BitVec 32 :=
  Scalar.select (FloatOps.cmpf (F := Ideal) (φ := .f32) .oge t (Ideal.ofBits .f32 (IntOp.shli .vector (IntOp.addi b s) 23#32)))
    (IntOp.addi b s) b

/-- The exponent field of `t`, by eight steps from the top bit. -/
def search (t : EReal) : BitVec 32 :=
  step t 1#32 (step t 2#32 (step t 4#32 (step t 8#32 (step t 16#32 (step t 32#32 (step t 64#32 (step t 128#32 0#32)))))))

/-- The scale's exponent from the field: zero for the fields 0 and 255, else the field less 126. -/
def exponent (n : BitVec 32) : BitVec 32 :=
  Scalar.select (IntOp.ori (IntOp.cmpi .eq n 0#32) (IntOp.cmpi .eq n 255#32)) 0#32 (IntOp.subi n 126#32)

/-- The scale of a row of level `t`, from its bit pattern. -/
def scale (t : EReal) : EReal :=
  Ideal.ofBits .f32 (IntOp.shli .vector (IntOp.addi 127#32 (exponent (search t))) 23#32)

/-- The inverse scale of a row of level `t`, from its bit pattern. -/
def inverse (t : EReal) : EReal :=
  Ideal.ofBits .f32 (IntOp.shli .vector (IntOp.subi 127#32 (exponent (search t))) 23#32)

/-- The code of an element: the element times the inverse scale, clipped to ±448. -/
def code (t v : EReal) : EReal :=
  min (Ideal.ofBits .f32 0x43E00000#32) (max (Ideal.ofBits .f32 0xC3E00000#32) (v * inverse t))

/-- The three fields of a pattern with exponent field `k` and zeros elsewhere. -/
theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- A sum of exponents, for the 23 bits of the significand. -/
theorem zpow_shift (k : ℤ) : (1 : ℝ) * ((2 ^ 23 + 0 : ℕ) : ℝ) * (2 : ℝ) ^ (k - (2 ^ (8 - 1) - 1) - 23) = (2 : ℝ) ^ (k - 127) := by
  have h : (2 : ℝ) ^ (k - 127) = (2 : ℝ) ^ (23 : ℤ) * (2 : ℝ) ^ (k - (2 ^ (8 - 1) - 1) - 23) := by
    rw [← zpow_add₀ (by norm_num)]; congr 1; norm_num
  rw [h, one_mul]
  congr 1
  norm_num

/-- Powers of two by real exponents and by bit patterns: the fields 1 to 254. -/
theorem power_eq (k : Nat) (h1 : 1 ≤ k) (h2 : k ≤ 254) : power k = (((2 : ℝ) ^ ((k : ℤ) - 127) : ℝ) : EReal) := by
  obtain ⟨e1, e2, e3⟩ := fields ⟨k, by omega⟩
  dsimp only at e1 e2 e3
  have hk : ¬ k = 2 ^ 8 - 1 := by omega
  have hk' : ¬ k = 0 := by omega
  unfold power
  show Ideal.ieee 8 23 (BitVec.ofNat 32 k <<< 23) = _
  unfold Ideal.ieee
  dsimp only
  rw [show 8 + 23 = 31 from rfl, e1, e2, e3, if_neg hk, if_neg hk']
  exact congrArg (fun x : ℝ => (x : EReal)) (zpow_shift k)

/-- The pattern of field 255 is infinity. -/
theorem power_top : power 255 = ⊤ := by
  simp [power, Ideal.ofBits, Ideal.ieee]

/-- A greater field gives a greater number. -/
theorem power_lt {a b : Nat} (ha : 1 ≤ a) (hab : a < b) (hb : b ≤ 255) : power a < power b := by
  rw [power_eq a ha (by omega)]
  rcases Nat.lt_or_ge b 255 with h | h
  · rw [power_eq b (by omega) (by omega), EReal.coe_lt_coe_iff]
    exact zpow_lt_zpow_right₀ (by norm_num) (by omega)
  · rw [show b = 255 by omega, power_top]; exact EReal.coe_lt_top _

theorem power_le {a b : Nat} (ha : 1 ≤ a) (hab : a ≤ b) (hb : b ≤ 255) : power a ≤ power b := by
  rcases Nat.lt_or_ge a b with h | h
  · exact (power_lt ha h hb).le
  · rw [show a = b by omega]

/-- What the search keeps: the field found so far is at most `t`'s, and adding the whole remaining range exceeds it. -/
def Found (t : EReal) (s : Nat) (b : BitVec 32) : Prop :=
  b.toNat + s ≤ 256 ∧ (b.toNat = 0 ∨ power b.toNat ≤ t) ∧ (b.toNat + s = 256 ∨ t < power (b.toNat + s))

/-- A step halves the remaining range. -/
theorem step_found (t : EReal) (s : Nat) (hs : 0 < s) (b : BitVec 32) (h : Found t (2 * s) b) :
    Found t s (step t (BitVec.ofNat 32 s) b) := by
  obtain ⟨h1, h2, h3⟩ := h
  have hadd : (IntOp.addi b (BitVec.ofNat 32 s)).toNat = b.toNat + s := by
    show (b + BitVec.ofNat 32 s).toNat = _
    rw [BitVec.toNat_add, BitVec.toNat_ofNat]; omega
  have hp : Ideal.ofBits .f32 (IntOp.shli .vector (IntOp.addi b (BitVec.ofNat 32 s)) 23#32) = power (b.toNat + s) := by
    unfold power
    rw [← hadd, BitVec.ofNat_toNat, BitVec.setWidth_eq]
    rfl
  have hst : step t (BitVec.ofNat 32 s) b = if power (b.toNat + s) ≤ t then IntOp.addi b (BitVec.ofNat 32 s) else b := by
    unfold step
    rw [hp]
    by_cases hc : power (b.toNat + s) ≤ t
    · rw [if_pos hc]
      show Scalar.select (BitVec.ofBool (decide (power (b.toNat + s) ≤ t))) _ _ = _
      rw [decide_eq_true hc]; rfl
    · rw [if_neg hc]
      show Scalar.select (BitVec.ofBool (decide (power (b.toNat + s) ≤ t))) _ _ = _
      rw [decide_eq_false hc]; rfl
  rw [hst]
  by_cases hc : power (b.toNat + s) ≤ t
  · rw [if_pos hc]
    refine ⟨by omega, Or.inr (by rw [hadd]; exact hc), ?_⟩
    rw [hadd]
    rcases h3 with h3 | h3
    · left; omega
    · right; rw [show b.toNat + s + s = b.toNat + 2 * s by omega]; exact h3
  · rw [if_neg hc]
    exact ⟨by omega, h2, Or.inr (not_le.mp hc)⟩

/-- What the search finds: the field of the greatest power of two at most `t`. -/
theorem search_found (t : EReal) : Found t 1 (search t) := by
  refine step_found t 1 (by decide) _ ?_
  refine step_found t 2 (by decide) _ ?_
  refine step_found t 4 (by decide) _ ?_
  refine step_found t 8 (by decide) _ ?_
  refine step_found t 16 (by decide) _ ?_
  refine step_found t 32 (by decide) _ ?_
  refine step_found t 64 (by decide) _ ?_
  refine step_found t 128 (by decide) _ ?_
  exact ⟨by decide, Or.inl rfl, Or.inl rfl⟩

/-- The three kinds of level: below the least normal number, infinite, or between two neighbouring powers of two. -/
theorem search_cases (t : EReal) :
    (t < power 1 ∧ search t = 0#32) ∨ (t = ⊤ ∧ search t = 255#32)
    ∨ ∃ n : Nat, 1 ≤ n ∧ n ≤ 254 ∧ search t = BitVec.ofNat 32 n ∧ power n ≤ t ∧ t < power (n + 1) := by
  obtain ⟨h1, h2, h3⟩ := search_found t
  have hn : search t = BitVec.ofNat 32 (search t).toNat := by rw [BitVec.ofNat_toNat, BitVec.setWidth_eq]
  generalize (search t).toNat = n at h1 h2 h3 hn
  by_cases h0 : n = 0
  · subst h0
    left; exact ⟨by rcases h3 with h | h; · omega
                    · exact h, hn⟩
  by_cases h255 : n = 255
  · subst h255
    right; left
    rcases h2 with h | h
    · omega
    · rw [power_top] at h; exact ⟨top_le_iff.mp h, hn⟩
  right; right
  refine ⟨n, by omega, by omega, hn, ?_, ?_⟩
  · rcases h2 with h | h
    · omega
    · exact h
  · rcases h3 with h | h
    · omega
    · exact h

/-- The exponent of a field strictly between 0 and 255. -/
theorem exponent_of (n : Nat) (h1 : 1 ≤ n) (h2 : n ≤ 254) : exponent (BitVec.ofNat 32 n) = BitVec.ofNat 32 n - 126#32 := by
  have h : ∀ n : Fin 255, n.val = 0 ∨ exponent (BitVec.ofNat 32 n.val) = BitVec.ofNat 32 n.val - 126#32 := by decide +kernel
  rcases h ⟨n, by omega⟩ with h | h
  · dsimp only at h; omega
  · exact h

/-- The scale between two neighbouring powers of two is the greater one. -/
theorem scale_between (t : EReal) (n : Nat) (h1 : 1 ≤ n) (h2 : n ≤ 254) (hs : search t = BitVec.ofNat 32 n) :
    scale t = power (n + 1) := by
  unfold scale power
  rw [hs, exponent_of n h1 h2]
  have h : ∀ n : Fin 255, IntOp.shli .vector (IntOp.addi 127#32 (BitVec.ofNat 32 n.val - 126#32)) 23#32 = BitVec.ofNat 32 (n.val + 1) <<< 23 := by
    decide +kernel
  rw [h ⟨n, by omega⟩]

/-- The pattern of the inverse scale between two neighbouring powers of two. -/
theorem inverse_between (t : EReal) (n : Nat) (h1 : 1 ≤ n) (h2 : n ≤ 254) (hs : search t = BitVec.ofNat 32 n) :
    inverse t = Ideal.ofBits .f32 ((253#32 - BitVec.ofNat 32 n) <<< 23) := by
  unfold inverse
  rw [hs, exponent_of n h1 h2]
  have h : ∀ n : Fin 255, IntOp.shli .vector (IntOp.subi 127#32 (BitVec.ofNat 32 n.val - 126#32)) 23#32 = (253#32 - BitVec.ofNat 32 n.val) <<< 23 := by
    decide +kernel
  rw [h ⟨n, by omega⟩]

/-- The patterns the reference compares with. -/
theorem ofBits_least : Ideal.ofBits .f32 8388608#32 = power 1 := rfl
theorem ofBits_top : Ideal.ofBits .f32 2139095040#32 = ⊤ := power_top
theorem ofBits_bot : Ideal.ofBits .f32 4286578688#32 = ⊥ := by simp [Ideal.ofBits, Ideal.ieee]
theorem ofBits_last : Ideal.ofBits .f32 2130706432#32 = power 254 := rfl
theorem power_one : power 127 = 1 := by rw [power_eq 127 (by omega) (by omega)]; norm_num

/-- The reference's powers of two, by the exponential. -/
def candidate (k : Fin 253) : EReal :=
  FloatOps.exp2 (F := Ideal) (FloatOps.sitofp (F := Ideal) .f32 (IntOp.subi (BitVec.ofNat 32 k.val) 125#32))

/-- The `k`-th is the power of two with field `k + 2`. -/
theorem candidate_eq (k : Fin 253) : candidate k = power (k.val + 2) := by
  have h : ∀ k : Fin 253, (IntOp.subi (BitVec.ofNat 32 k.val) 125#32).toInt = (k.val : ℤ) - 125 := by decide +kernel
  rw [power_eq _ (by omega) (by omega)]
  show Ideal.exp2 ((((IntOp.subi (BitVec.ofNat 32 k.val) 125#32).toInt : ℝ)) : EReal) = _
  rw [h k]
  show ((Real.rpow 2 (((k.val : ℤ) - 125 : ℤ) : ℝ) : ℝ) : EReal) = _
  congr 1
  rw [Real.rpow_eq_pow, Real.rpow_intCast]
  congr 1
  push_cast; ring

/-- The reference's scale: the least of the powers of two above the level, and one for the levels at the two ends. -/
def leastAbove (t : EReal) : EReal :=
  Scalar.select (IntOp.ori (BitVec.ofBool (decide (t < Ideal.ofBits .f32 8388608#32))) (BitVec.ofBool (decide (t = Ideal.ofBits .f32 2139095040#32))))
    1 (Finset.fold min (Ideal.ofBits .f32 2139095040#32)
      (fun k : Fin 253 => if t < candidate k then candidate k else Ideal.ofBits .f32 2139095040#32) Finset.univ)

/-- The reference's inverse of a scale. -/
def inverted (s : EReal) : EReal :=
  if s = Ideal.ofBits .f32 2139095040#32 then Ideal.ofBits .f32 4286578688#32
  else if s < Ideal.ofBits .f32 2130706432#32 then Ideal.div 1 s else 0

/-- The reference's scale of a level is the kernel's. -/
theorem scale_eq (t : EReal) : leastAbove t = scale t := by
  unfold leastAbove
  rw [ofBits_least, ofBits_top]
  rcases search_cases t with ⟨h, hs⟩ | ⟨h, hs⟩ | ⟨n, h1, h2, hs, hle, hlt⟩
  · rw [decide_eq_true h]
    have : scale t = power 127 := by unfold scale; rw [hs]; rfl
    rw [this, power_one]
    by_cases ht : t = ⊤
    · rw [decide_eq_true ht]; rfl
    · rw [decide_eq_false ht]; rfl
  · subst h
    have : scale ⊤ = power 127 := by unfold scale; rw [hs]; rfl
    rw [this, power_one, decide_eq_true (rfl : (⊤ : EReal) = ⊤)]
    by_cases ht : (⊤ : EReal) < power 1
    · rw [decide_eq_true ht]; rfl
    · rw [decide_eq_false ht]; rfl
  · have ht : ¬ t = ⊤ := fun h => by rw [h] at hlt; exact not_top_lt hlt
    have hl : ¬ t < power 1 := not_lt.mpr ((power_le (le_refl 1) h1 (by omega)).trans hle)
    rw [decide_eq_false ht, decide_eq_false hl, scale_between t n h1 h2 hs]
    refine Eq.trans (b := Finset.fold min (⊤ : EReal) (fun k : Fin 253 => if t < candidate k then candidate k else ⊤) Finset.univ) rfl ?_
    apply le_antisymm
    · rw [Finset.fold_min_le]
      by_cases hn : n = 254
      · left; rw [hn, power_top]
      · right
        refine ⟨⟨n - 1, by omega⟩, Finset.mem_univ _, ?_⟩
        have hc : candidate ⟨n - 1, by omega⟩ = power (n + 1) := by
          rw [candidate_eq]; congr 1; show n - 1 + 2 = n + 1; omega
        rw [hc, if_pos hlt]
    · rw [Finset.le_fold_min]
      refine ⟨le_top, fun k _ => ?_⟩
      by_cases hk : t < candidate k
      · rw [if_pos hk]
        rw [candidate_eq] at hk ⊢
        by_contra hcon
        have hcon' := not_le.mp hcon
        have : ¬ n + 1 ≤ k.val + 2 := fun h => hcon (power_le (by omega) h (by omega))
        exact absurd (hle.trans_lt hk) (not_lt.mpr (power_le (by omega) (by omega) (by omega)))
      · rw [if_neg hk]; exact le_top

/-- The reference's inverse of the scale is the kernel's inverse scale. -/
theorem inverse_eq (t : EReal) : inverted (scale t) = inverse t := by
  unfold inverted
  rw [ofBits_top, ofBits_bot, ofBits_last]
  have hone : inverted 1 = 1 := by
    unfold inverted
    rw [ofBits_top, ofBits_last, if_neg (show ¬ (1 : EReal) = ⊤ from EReal.coe_ne_top 1), if_pos (by rw [← power_one]; exact power_lt (by omega) (by omega) (by omega))]
    simp [Ideal.div]
  unfold inverted at hone
  rw [ofBits_top, ofBits_bot, ofBits_last] at hone
  rcases search_cases t with ⟨h, hs⟩ | ⟨h, hs⟩ | ⟨n, h1, h2, hs, hle, hlt⟩
  · have e : scale t = power 127 := by unfold scale; rw [hs]; rfl
    have e' : inverse t = power 127 := by unfold inverse; rw [hs]; rfl
    rw [e, e', power_one]; exact hone
  · have e : scale t = power 127 := by unfold scale; rw [hs]; rfl
    have e' : inverse t = power 127 := by unfold inverse; rw [hs]; rfl
    rw [e, e', power_one]; exact hone
  · rw [scale_between t n h1 h2 hs, inverse_between t n h1 h2 hs]
    by_cases hn : n = 254
    · subst hn
      rw [power_top, if_pos rfl]
      exact ofBits_bot.symm
    · have hf : ¬ power (n + 1) = ⊤ := by
        rw [power_eq _ (by omega) (by omega)]; exact EReal.coe_ne_top _
      rw [if_neg hf]
      by_cases hn' : n = 253
      · subst hn'
        rw [if_neg (lt_irrefl _)]
        exact (Ideal.ofBits_zero_f32).symm
      · rw [if_pos (power_lt (by omega) (by omega) (by omega))]
        have hw : (253#32 - BitVec.ofNat 32 n) <<< 23 = BitVec.ofNat 32 (253 - n) <<< 23 := by
          have h : ∀ n : Fin 253, (253#32 - BitVec.ofNat 32 n.val) <<< 23 = BitVec.ofNat 32 (253 - n.val) <<< 23 := by decide +kernel
          exact h ⟨n, by omega⟩
        rw [hw]
        show Ideal.div 1 (power (n + 1)) = power (253 - n)
        have hz : ¬ power (n + 1) = 0 := by
          rw [power_eq _ (by omega) (by omega), EReal.coe_eq_zero]; positivity
        unfold Ideal.div
        rw [if_neg hz, one_mul, power_eq _ (by omega) (by omega), power_eq _ (by omega) (by omega), ← EReal.coe_inv]
        congr 1
        rw [← zpow_neg]; congr 1
        push_cast
        rw [Nat.cast_sub (by omega)]; push_cast; ring

end Cert.Scale

end
-- ==== Proof.Mlp.lean ====
/-
  What the gated layer computes, over its argument arrays, one element at a time: the gated product of a row and a
  column, a row's level over its 8192 gated products, and the row's codes and scale.
-/
module

public import proofs.«01_k».proof.Proof.Dequant
public import proofs.«01_k».proof.Proof.Scale

@[expose] public section

set_option maxRecDepth 16384

noncomputable section

namespace Cert.Mlp

open Idealize.ShloMosaic

/-- The gate times its logistic times the other factor. -/
def gated (g u : EReal) : EReal := g * FloatOps.logistic (F := Ideal) (φ := .f32) g * u

/-- A row's level from its elements: their greatest magnitude, times 1/448. -/
def level {N : ℕ} (h : Fin N → EReal) : EReal :=
  Finset.fold max (Ideal.ofBits .f32 0xFF800000#32) (fun n => FloatOps.absf (F := Ideal) (φ := .f32) (h n)) Finset.univ
    * Ideal.ofBits .f32 0x3B124925#32

/-- The sixteen greatest elements of 512 each have as their greatest the greatest of all 8192. -/
theorem fold_max_tiles (b : EReal) (f : Fin 16 → Fin 512 → EReal) (g : Fin 16 → EReal)
    (hg : ∀ k, g k = Finset.fold max b (f k) Finset.univ) :
    max (max (max (max (max (max (max (max (max (max (max (max (max (max (max (g 0) (g 1)) (g 2)) (g 3)) (g 4)) (g 5)) (g 6)) (g 7)) (g 8))
      (g 9)) (g 10)) (g 11)) (g 12)) (g 13)) (g 14)) (g 15)
      = Finset.fold max b (fun n : Fin 8192 => f ⟨n.val / 512, by omega⟩ ⟨n.val % 512, Nat.mod_lt _ (by decide)⟩) Finset.univ := by
  refine eq_of_forall_ge_iff fun c => ?_
  have hall : (∀ k, g k ≤ c) ↔ b ≤ c ∧ ∀ k x, f k x ≤ c := by
    simp only [hg, Finset.fold_max_le, Finset.mem_univ, true_implies]
    exact ⟨fun h => ⟨(h 0).1, fun k => (h k).2⟩, fun h k => ⟨h.1, h.2 k⟩⟩
  rw [Finset.fold_max_le]
  refine Iff.trans ?_ (hall.trans ⟨fun h => ⟨h.1, fun n _ => h.2 _ _⟩, fun h => ⟨h.1, fun k x => ?_⟩⟩)
  · simp only [max_le_iff]
    refine ⟨fun h k => ?_, fun h => ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩⟩
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
    fin_cases k <;> assumption
  · have h2 := h.2 ⟨512 * k.val + x.val, by omega⟩ (Finset.mem_univ _)
    have e1 : (512 * k.val + x.val) / 512 = k.val := by omega
    have e2 : (512 * k.val + x.val) % 512 = x.val := by omega
    simpa only [e1, e2] using h2

section

variable (a : Fin 256 → Fin 3072 → EReal) (x : Fin 256 → EReal) (w : Fin 1536 → Fin 20992 → BitVec 8) (s : Fin 24 → Fin 20992 → EReal)

/-- Row `r` of the codes times column `n` of the weights, times the codes' scale of the row. -/
def product (r : Fin 256) (n : Fin 20992) : EReal :=
  Dequant.product (K := 1536) (a r) (fun k => w k n) (fun k => s ⟨k.val / 64, by omega⟩ n) * x r

/-- The gated product: the gate's column lies at 4608 and on, the other factor's at 12800 and on. -/
def hidden (r : Fin 256) (n : Fin 8192) : EReal :=
  gated (product a x w s r ⟨4608 + n.val, by omega⟩) (product a x w s r ⟨12800 + n.val, by omega⟩)

/-- The scale of a row. -/
def scale (r : Fin 256) : EReal := Scale.scale (level (hidden a x w s r))

/-- The codes of a row. -/
def code (r : Fin 256) (n : Fin 8192) : EReal := Scale.code (level (hidden a x w s r)) (hidden a x w s r n)

end

end Cert.Mlp

end
-- ==== Proof.MlpIn.lean ====
/-
  The gated layer's two result arrays after the kernel's run, over its argument arrays.
-/
module

public import proofs.«01_k».proof.Proof.MlpInFrame
public import proofs.«01_k».proof.Proof.Mlp
public import Idealize.ShloMosaic.Lib.Pipeline.ValueKit

@[expose] public section

set_option maxRecDepth 65536

noncomputable section

namespace Cert.MlpInIdeal.Run

open Idealize.ShloMosaic Idealize.ShloMosaic.TcCoe Idealize.ShloMosaic.Tactic Idealize.SL.Sem
open Cert.MlpInIdeal Cert.MlpInIdeal.Gen

/-- A row of a block's weights: the unpacked field times its group's scale. -/
theorem weights_apply (w : Vec Ideal S1536x512 .i8) (s : FVec Ideal S24x512 .f32) (r : Fin 3072) (j : Fin 512) :
    (weights (k0_pay36 w) (k0_pay37 s) (ValueIdx.ix2 r j) : EReal)
      = FloatOps.sitofp (F := Ideal) FTy.bf16 (Dequant.unpacked (K := 1536) (fun k => w (ValueIdx.ix2 k j)) r)
        * s (ValueIdx.ix2 ⟨r.val / 128, by omega⟩ j) := by
  unfold weights
  refine (Dequant.concatenate_grouped_apply (G := 24) (N := 512) (k0_pay36 w) (k0_pay37 s) _ _ _ _ r j).trans ?_
  refine congrArg₂ (· * ·) ?_ ?_
  · pointwise [Cert.MlpInIdeal.Gen.k0_pay36]
    rfl
  · pointwise [Cert.MlpInIdeal.Gen.k0_pay37]
    rfl

/-- A row times a column of a block's weights. -/
theorem sum_weights (a : FVec Ideal S256x3072 .bf16) (w : Vec Ideal S1536x512 .i8) (s : FVec Ideal S24x512 .f32) (r : Fin 256) (j : Fin 512) :
    ∑ k : Fin 3072, (a (ValueIdx.ix2 r k) : EReal) * weights (k0_pay36 w) (k0_pay37 s) (ValueIdx.ix2 k j)
      = Dequant.product (K := 1536) (fun k => a (ValueIdx.ix2 r k)) (fun k => w (ValueIdx.ix2 k j)) (fun k => s (ValueIdx.ix2 ⟨k.val / 64, by omega⟩ j)) := by
  rw [← Dequant.sum_unpacked (K := 1536) _ _ _ (fun k => s (ValueIdx.ix2 ⟨k.val / 128, by omega⟩ j)) (fun r => by
    simp only [Nat.div_div_eq_div_mul])]
  refine Finset.sum_congr rfl fun k _ => ?_
  rw [weights_apply]

/-- One element of the gate. -/
theorem gate_apply (a : FVec Ideal S256x3072 .bf16) (xs : FVec Ideal S256x1 .f32) (w : Vec Ideal S1536x512 .i8) (s : FVec Ideal S24x512 .f32)
    (r : Fin 256) (j : Fin 512) :
    (gate a xs w s (ValueIdx.ix2 r j) : EReal)
      = Dequant.product (K := 1536) (fun k => a (ValueIdx.ix2 r k)) (fun k => w (ValueIdx.ix2 k j)) (fun k => s (ValueIdx.ix2 ⟨k.val / 64, by omega⟩ j))
        * xs (ValueIdx.ix2 r 0) := by
  rw [← sum_weights]
  unfold gate
  pointwise
  try rfl

/-- One element of a slice: the gated product. -/
theorem slice_apply (a : FVec Ideal S256x3072 .bf16) (xs : FVec Ideal S256x1 .f32) (wg : Vec Ideal S1536x512 .i8) (sg : FVec Ideal S24x512 .f32)
    (wu : Vec Ideal S1536x512 .i8) (su : FVec Ideal S24x512 .f32) (r : Fin 256) (j : Fin 512) :
    (slice a xs wg sg wu su (ValueIdx.ix3 0 r j) : EReal)
      = Mlp.gated
        (Dequant.product (K := 1536) (fun k => a (ValueIdx.ix2 r k)) (fun k => wg (ValueIdx.ix2 k j)) (fun k => sg (ValueIdx.ix2 ⟨k.val / 64, by omega⟩ j))
          * xs (ValueIdx.ix2 r 0))
        (Dequant.product (K := 1536) (fun k => a (ValueIdx.ix2 r k)) (fun k => wu (ValueIdx.ix2 k j)) (fun k => su (ValueIdx.ix2 ⟨k.val / 64, by omega⟩ j))
          * xs (ValueIdx.ix2 r 0)) := by
  rw [← gate_apply, ← sum_weights]
  unfold slice Mlp.gated
  rw [show (k0_pay62 wu : FVec Ideal S3072x512 .bf16) = k0_pay36 wu from rfl, show (k0_pay63 su : FVec Ideal S24x512 .bf16) = k0_pay37 su from rfl]
  pointwise [Cert.MlpInIdeal.Gen.k0_pay6]
  try rfl

/-- A row's level over the gathered slices. -/
theorem level_apply (d : FVec Ideal S16x256x512 .f32) (r : Fin 256) :
    (level (F := Ideal) d (ValueIdx.ix2 r 0) : EReal)
      = Mlp.level (fun n : Fin 8192 => d (ValueIdx.ix3 ⟨n.val / 512, by omega⟩ r ⟨n.val % 512, Nat.mod_lt _ (by decide)⟩)) := by
  unfold Mlp.level
  rw [← Mlp.fold_max_tiles _ (fun k x => FloatOps.absf (F := Ideal) (φ := .f32) (d (ValueIdx.ix3 k r x))) _ (fun k => rfl)]
  pointwise [level, Cert.MlpInIdeal.Gen.k0_pay10, Cert.MlpInIdeal.Gen.k0_pay9, Cert.MlpInIdeal.Gen.k0_pay8, plane]
  try rfl

/-- The search for a row's exponent field. -/
theorem biased_apply (t : FVec Ideal S256x1 .f32) (i : S256x1.Idx) : biased t i = Scale.search (t i) := by
  sl_kernel_rfl

/-- A row's scale. -/
theorem scales_apply (d : FVec Ideal S16x256x512 .f32) (r : Fin 256) :
    (scales (F := Ideal) d (ValueIdx.ix2 r 0) : EReal) = Scale.scale (level (F := Ideal) d (ValueIdx.ix2 r 0)) := by
  unfold Scale.scale Scale.exponent
  rw [← biased_apply]
  rfl

/-- A row's inverse scale. -/
theorem inverses_apply (d : FVec Ideal S16x256x512 .f32) (r : Fin 256) :
    (inverses (F := Ideal) d (ValueIdx.ix2 r 0) : EReal) = Scale.inverse (level (F := Ideal) d (ValueIdx.ix2 r 0)) := by
  unfold Scale.inverse Scale.exponent
  rw [← biased_apply]
  rfl

/-- The code of an element of the gathered slices. -/
theorem codes_apply (d : FVec Ideal S16x256x512 .f32) (r : Fin 256) (n : Fin 8192) :
    (codes (F := Ideal) d (ValueIdx.ix2 r n) : EReal)
      = Scale.code (level (F := Ideal) d (ValueIdx.ix2 r 0)) (d (ValueIdx.ix3 ⟨n.val / 512, by omega⟩ r ⟨n.val % 512, Nat.mod_lt _ (by decide)⟩)) := by
  unfold Scale.code
  rw [← inverses_apply]
  pointwise [codes, Cert.MlpInIdeal.Gen.k0_pay7, plane]
  try rfl

variable (m : (ℓ : Loc nD τ sig) → Buf (Elt Ideal) ℓ)

/-- The window's block indices, at every point. -/
theorem idx : ∀ t : Fin cfg0.N, win0_0.index t = ![0, 0] ∧ win0_1.index t = ![0, 0] ∧ win0_2.index t = ![0, 9 + t.val]
    ∧ win0_3.index t = ![0, 9 + t.val] ∧ win0_4.index t = ![0, 25 + t.val] ∧ win0_5.index t = ![0, 25 + t.val]
    ∧ win0_6.index t = ![0, 0] ∧ win0_7.index t = ![0, 0] :=
  (by decide +kernel : ∀ t : Fin grid0.N, _)

/-- The gated product over the arrays the run starts with. -/
abbrev hiddenOf (c : Dev nD) (r : Fin 256) (n : Fin 8192) : EReal :=
  Mlp.hidden (fun r k => (m ((c : Thread nD τ).loc main_arg0) : FVec Ideal S256x3072 .fp8e4m3) (ValueIdx.ix2 r k))
    (fun r => (m ((c : Thread nD τ).loc main_arg1) : FVec Ideal S256x1 .f32) (ValueIdx.ix2 r 0))
    (fun k n => (m ((c : Thread nD τ).loc main_arg2) : IVec S1536x20992 8) (ValueIdx.ix2 k n))
    (fun k n => (m ((c : Thread nD τ).loc main_arg3) : FVec Ideal S24x20992 .f32) (ValueIdx.ix2 k n)) r n

/-- Slice `k` holds the gated products of the columns `512 k` and on. -/
theorem hidden_apply (c : Dev nD) (k : Fin 16) (r : Fin 256) (j : Fin 512) :
    (hidden m c k (ValueIdx.ix3 0 r j) : EReal) = hiddenOf m c r ⟨512 * k.val + j.val, by omega⟩ := by
  unfold hidden
  refine (slice_apply _ _ _ _ _ _ r j).trans ?_
  unfold hiddenOf Mlp.hidden Mlp.product left Dequant.product
  pointwise [Cert.MlpInIdeal.Gen.k0_pay35]
  blk_point [iblk, V, idx (pt k), idx (pt 0)]
  all_goals first
    | (show (9 + k.val) * 512 + j.val = 4608 + (512 * k.val + j.val); omega)
    | (show (25 + k.val) * 512 + j.val = 12800 + (512 * k.val + j.val); omega)

/-- The gathered slices hold the gated products. -/
theorem hiddens_apply (c : Dev nD) (r : Fin 256) (n : Fin 8192) :
    (hiddens m c (ValueIdx.ix3 ⟨n.val / 512, by omega⟩ r ⟨n.val % 512, Nat.mod_lt _ (by decide)⟩) : EReal) = hiddenOf m c r n := by
  refine (hidden_apply m c ⟨n.val / 512, by omega⟩ r ⟨n.val % 512, Nat.mod_lt _ (by decide)⟩).trans ?_
  exact congrArg (hiddenOf m c r) (Fin.ext (Nat.div_add_mod n.val 512))

/-- A row's level over the run's slices. -/
theorem level_hiddens (c : Dev nD) (r : Fin 256) : (level (hiddens m c) (ValueIdx.ix2 r 0) : EReal) = Mlp.level (hiddenOf m c r) := by
  rw [level_apply]
  exact congrArg Mlp.level (funext fun n => hiddens_apply m c r n)

/-- The scales' array after the run. -/
theorem final_scales (c : Dev nD) : (dats m 0 c).arrAt 7 cfg0.N
    = fun i : S256x1.Idx => (Scale.scale (Mlp.level (hiddenOf m c (i 0))) : EReal) := by
  refine (dats m 0 c).arrAt_eq_of_after_last 7 (pt 15) (by decide +kernel) _ fun j => ?_
  blk_simp
  rw [after0_7]
  idx_vars j
  obtain rfl : j1 = 0 := Subsingleton.elim _ _
  exact (scales_apply (hiddens m c) j0).trans (congrArg Scale.scale (level_hiddens m c j0))

/-- The codes' array after the run. -/
theorem final_codes (c : Dev nD) : (dats m 0 c).arrAt 6 cfg0.N
    = fun i : S256x8192.Idx => (Scale.code (Mlp.level (hiddenOf m c (i 0))) (hiddenOf m c (i 0) (i 1)) : EReal) := by
  refine (dats m 0 c).arrAt_eq_of_after_last 6 (pt 15) (by decide +kernel) _ fun j => ?_
  blk_simp
  rw [after0_6]
  idx_vars j
  refine (codes_apply _ _ _).trans ?_
  rw [level_hiddens, hiddens_apply]

end Cert.MlpInIdeal.Run

end
-- ==== Proof.MlpInRef.lean ====
/-
  The gated layer's two result arrays after the reference's run, over its argument arrays.
-/
module

public import proofs.«01_k».proof.Proof.Gen.MlpInRefIdeal.Value
public import proofs.«01_k».proof.Proof.Mlp
public import Idealize.ShloMosaic.Lib.Pipeline.ValueKit

@[expose] public section

set_option maxRecDepth 65536

noncomputable section

open Idealize.ShloMosaic Idealize.ShloMosaic.TcCoe Idealize.SL.Sem
open Cert.MlpInRefIdeal Cert.MlpInRefIdeal.Gen

namespace Cert.MlpInRefIdeal.Mlp

/-- The scale the reference gives a row of level `t`. -/
theorem scale_apply (t : FVec Ideal S256x1 .f32) (r : Fin 256) :
    (k0_pay1 t (ix2 r 0) : EReal) = Scale.scale (t (ix2 r 0)) := by
  rw [← Scale.scale_eq]
  unfold Scale.leastAbove Scale.candidate
  pointwise [Cert.MlpInRefIdeal.Gen.k0_pay1]

/-- The code the reference gives an element of a row of level `t`. -/
theorem code_apply (h : FVec Ideal S256x8192 .f32) (t : FVec Ideal S256x1 .f32) (r : Fin 256) (n : Fin 8192) :
    (k0_pay2 h t (ix2 r n) : EReal) = Scale.code (t (ix2 r 0)) (h (ix2 r n)) := by
  unfold Scale.code
  rw [← Scale.inverse_eq, ← scale_apply]
  unfold Scale.inverted
  pointwise [Cert.MlpInRefIdeal.Gen.k0_pay2]

/-- One element of the gated product. -/
theorem hidden_apply (wg : Vec Ideal S1536x8192 .i8) (sg : FVec Ideal S24x8192 .f32) (a : FVec Ideal S256x3072 .fp8e4m3) (xs : FVec Ideal S256x1 .f32)
    (wu : Vec Ideal S1536x8192 .i8) (su : FVec Ideal S24x8192 .f32) (r : Fin 256) (j : Fin 8192) :
    (k0_pay4 (k0_pay3 wg sg a xs) wu su a xs (ix2 r j) : EReal)
      = Mlp.gated
        (Dequant.product (K := 1536) (fun k => a (ix2 r k)) (fun k => wg (ix2 k j)) (fun k => sg (ix2 ⟨k.val / 64, by omega⟩ j))
          * xs (ix2 r 0))
        (Dequant.product (K := 1536) (fun k => a (ix2 r k)) (fun k => wu (ix2 k j)) (fun k => su (ix2 ⟨k.val / 64, by omega⟩ j))
          * xs (ix2 r 0)) := by
  unfold Mlp.gated Dequant.product
  pointwise [Cert.MlpInRefIdeal.Gen.k0_pay4, Cert.MlpInRefIdeal.Gen.k0_pay3, Cert.Dequant.lowField, Cert.Dequant.highField]

/-- The levels of an array's rows, as the reference computes them. -/
def levels (h : FVec Ideal S256x8192 .f32) : FVec Ideal S256x1 .f32 :=
  mulf (shapeCast S256x1 (multiReduction .maximumf [1] S256 (absf h) 0xFF800000#32 reduces_S256x8192_S256 (.inl rfl) rfl) shapeCasts_S256_S256x1)
    (broadcast S256x1 (Scalar.ofBits .f32 0x3B124925#32))

/-- A column of levels times a constant, at a row. -/
theorem scaled_apply (v : FVec Ideal S256 .f32) (r : Fin 256) :
    (mulf (shapeCast S256x1 v shapeCasts_S256_S256x1) (broadcast S256x1 (Scalar.ofBits (F := Ideal) .f32 0x3B124925#32)) (ix2 r 0) : EReal)
      = v (ix1 r) * Ideal.ofBits .f32 0x3B124925#32 := by
  pointwise

/-- A row's level. -/
theorem levels_apply (h : FVec Ideal S256x8192 .f32) (r : Fin 256) :
    (levels h (ix2 r 0) : EReal) = Mlp.level (fun n : Fin 8192 => h (ix2 r n)) := by
  have e : ∀ r : Fin 256, (multiReduction .maximumf [1] S256 (absf h) 0xFF800000#32 reduces_S256x8192_S256 (.inl rfl) rfl (ix1 r) : EReal)
      = Finset.fold max (Ideal.ofBits .f32 0xFF800000#32) (fun n : Fin 8192 => FloatOps.absf (F := Ideal) (φ := .f32) (h (ix2 r n))) Finset.univ :=
    fun r => (Ideal.multiReduction_maximumf_single _ _ _ _ _ _).trans
      (congrArg (fun f : Fin 8192 → EReal => Finset.fold max (Ideal.ofBits .f32 0xFF800000#32) f Finset.univ) (funext fun n =>
        congrArg (fun i => FloatOps.absf (F := Ideal) (φ := .f32) (h i)) (funext fun a => Fin.ext (by fin_cases a <;> rfl))))
  exact (scaled_apply _ r).trans (congrArg (· * Ideal.ofBits .f32 0x3B124925#32) (e r))

/-- The body's levels are those of its gated products. -/
theorem levels_eq (g : FVec Ideal S256x8192 .f32) (xs : FVec Ideal S256x1 .f32) (a : FVec Ideal S256x3072 .fp8e4m3)
    (wu : Vec Ideal S1536x8192 .i8) (su : FVec Ideal S24x8192 .f32) :
    k0_pay5 g wu su a xs = levels (k0_pay4 g wu su a xs) := rfl
variable (m : (ℓ : Loc nD τ sig) → Buf (Elt Ideal) ℓ)

/-- The gated product over the arrays the run starts with. -/
abbrev hiddenOf (c : Dev nD) (r : Fin 256) (n : Fin 8192) : EReal :=
  Mlp.hidden (fun r k => (m ((c : Thread nD τ).loc main_arg0) : FVec Ideal S256x3072 .fp8e4m3) (ValueIdx.ix2 r k))
    (fun r => (m ((c : Thread nD τ).loc main_arg1) : FVec Ideal S256x1 .f32) (ValueIdx.ix2 r 0))
    (fun k n => (m ((c : Thread nD τ).loc main_arg2) : IVec S1536x20992 8) (ValueIdx.ix2 k n))
    (fun k n => (m ((c : Thread nD τ).loc main_arg3) : FVec Ideal S24x20992 .f32) (ValueIdx.ix2 k n)) r n

/-- The body's gated products, over the arrays the run starts with. -/
abbrev hiddens (c : Dev nD) : FVec Ideal S256x8192 .f32 :=
  k0_pay4 (k0_pay3 (View.ld (m ((c : Thread nD τ).loc main_arg2)) r0_0) (View.ld (m ((c : Thread nD τ).loc main_arg3)) r0_1)
    (m ((c : Thread nD τ).loc main_arg0)) (m ((c : Thread nD τ).loc main_arg1)))
    (View.ld (m ((c : Thread nD τ).loc main_arg2)) r0_4) (View.ld (m ((c : Thread nD τ).loc main_arg3)) r0_5)
    (m ((c : Thread nD τ).loc main_arg0)) (m ((c : Thread nD τ).loc main_arg1))

/-- A load of 8192 columns from column `o` on, at an index. -/
theorem ld_columns {E : Type} {K o : ℕ} (d : (⟨2, ![K, 20992]⟩ : Shape).Idx → E) (ho : o + 8192 ≤ 20992)
    (inb : ∀ a, (![0, o] : Fin 2 → ℕ) a + (![K, 8192] : Fin 2 → ℕ) a ≤ (⟨2, ![K, 20992]⟩ : Shape).size a) (k : Fin K) (n : Fin 8192) :
    d ((Rect.unit (s := ⟨2, ![K, 20992]⟩) ![0, o] ![K, 8192] inb).idx (ix2 k n)) = d (ValueIdx.ix2 k ⟨o + n.val, by omega⟩) := by
  refine congrArg d (funext fun a => Fin.ext ?_)
  fin_cases a
  · show 0 + 1 * k.val = k.val; omega
  · show o + 1 * n.val = o + n.val; omega

/-- The body's gated products are those of the columns at 4608 and at 12800. -/
theorem hiddens_apply (c : Dev nD) (r : Fin 256) (n : Fin 8192) : (hiddens m c (ix2 r n) : EReal) = hiddenOf m c r n := by
  refine (hidden_apply _ _ _ _ _ _ r n).trans ?_
  unfold hiddenOf Mlp.hidden Mlp.product
  refine congrArg₂ Mlp.gated ?_ ?_
  · refine congrArg₂ (· * ·) (congrArg₂ (Dequant.product _) (funext fun k => ?_) (funext fun k => ?_)) rfl
    · exact ld_columns (o := 4608) _ (by decide) _ k n
    · exact ld_columns (o := 4608) _ (by decide) _ _ n
  · refine congrArg₂ (· * ·) (congrArg₂ (Dequant.product _) (funext fun k => ?_) (funext fun k => ?_)) rfl
    · exact ld_columns (o := 12800) _ (by decide) _ k n
    · exact ld_columns (o := 12800) _ (by decide) _ _ n

/-- A row's level over the run's gated products. -/
theorem level_hiddens (c : Dev nD) (r : Fin 256) : (levels (hiddens m c) (ix2 r 0) : EReal) = Mlp.level (hiddenOf m c r) := by
  rw [levels_apply]
  exact congrArg Mlp.level (funext fun n => hiddens_apply m c r n)

/-- The body's levels are those of its gated products. -/
theorem levels_hiddens (c : Dev nD) :
    k0_pay7 (m ((c : Thread nD τ).loc main_arg0)) (m ((c : Thread nD τ).loc main_arg1)) (m ((c : Thread nD τ).loc main_arg2)) (m ((c : Thread nD τ).loc main_arg3))
      = levels (hiddens m c) := by
  unfold k0_pay7 k0_pay6
  rw [View.ld_unit_zero (S := S256x3072) Cert.MlpInRefIdeal.Value.hz0, View.ld_unit_zero (S := S256x1) Cert.MlpInRefIdeal.Value.hz1]
  exact levels_eq _ _ _ _ _

/-- The payload of the codes' store. -/
theorem stored_codes (c : Dev nD) :
    Cert.MlpInRefIdeal.Value.G4 (m ((c : Thread nD τ).loc main_arg0)) (m ((c : Thread nD τ).loc main_arg1)) (m ((c : Thread nD τ).loc main_arg2)) (m ((c : Thread nD τ).loc main_arg3))
      = k0_pay2 (hiddens m c) (levels (hiddens m c)) := by
  unfold Cert.MlpInRefIdeal.Value.G4
  rw [levels_hiddens]
  unfold k0_pay6
  rw [View.ld_unit_zero (S := S256x3072) Cert.MlpInRefIdeal.Value.hz0, View.ld_unit_zero (S := S256x1) Cert.MlpInRefIdeal.Value.hz1]
  exact rfl

/-- The payload of the scales' store. -/
theorem stored_scales (c : Dev nD) :
    Cert.MlpInRefIdeal.Value.G5 (m ((c : Thread nD τ).loc main_arg0)) (m ((c : Thread nD τ).loc main_arg1)) (m ((c : Thread nD τ).loc main_arg2)) (m ((c : Thread nD τ).loc main_arg3))
      = k0_pay1 (levels (hiddens m c)) := by
  unfold Cert.MlpInRefIdeal.Value.G5
  rw [levels_hiddens]

/-- The codes' array after the run. -/
theorem final_codes (c : Dev nD) : (dats m 0 c).arrAt 4 cfg0.N
    = fun i : S256x8192.Idx => (Scale.code (Mlp.level (hiddenOf m c (i 0))) (hiddenOf m c (i 0) (i 1)) : EReal) := by
  refine ((Cert.MlpInRefIdeal.Value.final4 m c).trans (stored_codes m c)).trans (funext fun j => ?_)
  idx_vars j
  refine (code_apply (hiddens m c) (levels (hiddens m c)) j0 j1).trans ?_
  rw [level_hiddens, hiddens_apply]

/-- The scales' array after the run. -/
theorem final_scales (c : Dev nD) : (dats m 0 c).arrAt 5 cfg0.N
    = fun i : S256x1.Idx => (Scale.scale (Mlp.level (hiddenOf m c (i 0))) : EReal) := by
  refine ((Cert.MlpInRefIdeal.Value.final5 m c).trans (stored_scales m c)).trans (funext fun j => ?_)
  idx_vars j
  obtain rfl : j1 = 0 := Subsingleton.elim _ _
  exact (scale_apply (levels (hiddens m c)) j0).trans (congrArg Scale.scale (level_hiddens m c j0))

end Cert.MlpInRefIdeal.Mlp

end
-- ==== Proof.MlpInClaim.lean ====
/-
  The claims of the gated layer: the frame of the kernel as the version has it, and that kernel and reference leave the
  same codes and scales.
-/
module

public import proofs.«01_k».proof.Defs
public import proofs.«01_k».proof.Proof.MlpIn
public import proofs.«01_k».proof.Proof.MlpInRef
public import proofs.«01_k».proof.Proof.Gen.MlpIn
public import Idealize.ShloMosaic.Lib.Claim
public import Idealize.ShloMosaic.Lib.Tactic

@[expose] public section

set_option maxRecDepth 65536

noncomputable section

open Idealize.ShloMosaic Idealize.ShloMosaic.TcCoe Idealize.SL.Sem

namespace Cert.MlpInClaim

/-- The kernel and its idealised form are the same program, so their frames say the same. -/
theorem frame_eq :
  (∀ (m : (ℓ : Loc Cert.MlpInIdeal.nD Cert.MlpInIdeal.τ Cert.MlpInIdeal.sig) → Buf (Elt Bits) ℓ) (g : Dev Cert.MlpInIdeal.nD → PrngReg),
    θ_run (Cert.MlpInIdeal.defs (F := Bits)) (onTc (τ := Cert.MlpInIdeal.τ) (Cert.MlpInIdeal.main (F := Bits))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3))
      ∧ r.2.sem = fun _ => 0))
  = (∀ (m : (ℓ : Loc Cert.MlpIn.nD Cert.MlpIn.τ Cert.MlpIn.sig) → Buf (Elt Bits) ℓ) (g : Dev Cert.MlpIn.nD → PrngReg),
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3))
      ∧ r.2.sem = fun _ => 0)) := by
  sl_kernel_rfl

/-- MlpIn's frame, at the machine's own floats. -/
theorem frame : Cert.quiescent_MlpIn (hMlpIn := Cert.MlpIn.Gen.facts) :=
  fun m g _ => (frame_eq ▸ fun m g => Cert.MlpInIdeal.Run.frame m g) m g

/-- MlpIn: kernel and reference agree on the codes and on the scales. -/
theorem algebraic : Cert.algebraic_MlpInIdeal_MlpInRefIdeal := by
  pair_intro
  · run_from Cert.MlpInIdeal.Run.run_main m g
  · run_from Cert.MlpInRefIdeal.Gen.run_main m' g'
    · refine (Cert.MlpInRefIdeal.Mlp.final_codes m' c).trans (Eq.trans ?_ (Cert.MlpInIdeal.Run.final_codes m c).symm)
      unfold Cert.MlpInRefIdeal.Mlp.hiddenOf Cert.MlpInIdeal.Run.hiddenOf
      obtain ⟨h0, h1, h2, h3⟩ := hagree c
      rw [h0, h1, h2, h3]
    · refine (Cert.MlpInRefIdeal.Mlp.final_scales m' c).trans (Eq.trans ?_ (Cert.MlpInIdeal.Run.final_scales m c).symm)
      unfold Cert.MlpInRefIdeal.Mlp.hiddenOf Cert.MlpInIdeal.Run.hiddenOf
      obtain ⟨h0, h1, h2, h3⟩ := hagree c
      rw [h0, h1, h2, h3]

end Cert.MlpInClaim

end
-- ==== Proof.Down.lean ====
/-
  The last product's result array: what each point of the grid stores into its block of 512 columns, and so what the whole
  array holds after the run, read at one index over the argument arrays.
-/
module

public import proofs.«01_k».proof.Proof.Gen.DownIdeal.Value
public import proofs.«01_k».proof.Proof.Dequant
public import Idealize.ShloMosaic.Lib.Pipeline.ValueKit

@[expose] public section

set_option maxRecDepth 16384

noncomputable section

open Idealize.ShloMosaic Idealize.ShloMosaic.TcCoe Idealize.SL.Sem
open Cert.DownIdeal Cert.DownIdeal.Gen

namespace Cert.DownIdeal.Down

/-- The offsets of a whole-block access are zero. -/
theorem hz : (![0, 0] : Fin 2 → ℕ) = fun _ => 0 := by decide

/-- The block's weights as the body multiplies by them: unpacked, each times its group's scale. -/
def weights (w : Vec Ideal S4096x512 .i8) (s : Vec Ideal S64x512 .f32) : FVec Ideal S8192x512 .bf16 :=
  concatenate S8192x512 0 (List.ofFn fun n : Fin 64 =>
    (⟨S128x512, Dequant.grouped (G := 64) (N := 512) (k0_pay3 w) (k0_pay4 s) (by decide) (by decide) broadcasts_S1x512_S128x512 n⟩
      : (s : Shape) × (s.Idx → Ideal .bf16)))
    (by rw [Dequant.grouped_shapes]; decide)

/-- What the body stores, from the codes in bfloat16 and the point's blocks. -/
def stored (a : FVec Ideal S256x8192 .bf16) (hs : Vec Ideal S256x1 .f32) (w : Vec Ideal S4096x512 .i8) (s : Vec Ideal S64x512 .f32)
    (x : Vec Ideal S256x512 .bf16) : Vec Ideal S256x512 .bf16 :=
  k0_pay1 (mulf (matmul dot_S256x8192_S8192x512_S256x512_1_0_0_1_n_n none a (weights w s) (constant S256x512 .f32 0x00000000#32))
    (broadcastTo S256x512 hs broadcasts_S256x1_S256x512)) x

/-- What a later point stores into the block, from the codes kept by the first. -/
theorem out_B (c : Dev nD) (i : grid0.Coords) (arg1 : Memref sig .tc .vmem S256x8192 .fp8e4m3) (harg1 : arg1.IsWhole) (arg2 : Memref sig .tc .vmem S256x1 .f32) (harg2 : arg2.IsWhole) (arg3 : Memref sig .tc .vmem S4096x512 .i8) (harg3 : arg3.IsWhole) (arg4 : Memref sig .tc .vmem S64x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x8192 .bf16) (harg7 : arg7.IsWhole) (hc0 : ¬cond0_0 i)
    (x0 : Vec Ideal S256x8192 .fp8e4m3) (x1 : Vec Ideal S256x1 .f32) (x2 : Vec Ideal S4096x512 .i8) (x3 : Vec Ideal S64x512 .f32) (x4 : Vec Ideal S256x512 .bf16) (xs0 : Vec Ideal S256x8192 .bf16) :
    out0_B_5 c i arg1 harg1 arg2 harg2 arg3 harg3 arg4 harg4 arg5 harg5 arg6 harg6 arg7 harg7 hc0 x0 x1 x2 x3 x4 xs0 = stored xs0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S256x8192) hz, View.ld_unit_zero (S := S256x1) hz, View.ld_unit_zero (S := S4096x512) hz, View.ld_unit_zero (S := S64x512) hz, View.ld_unit_zero (S := S256x512) hz]
  rfl

/-- A row of the block's weights: the unpacked field times its group's scale. -/
theorem weights_apply (w : Vec Ideal S4096x512 .i8) (s : Vec Ideal S64x512 .f32) (r : Fin 8192) (j : Fin 512) :
    (weights w s (ix2 r j) : EReal) = FloatOps.sitofp (F := Ideal) FTy.bf16 (Dequant.unpacked (K := 4096) (fun k => w (ix2 k j)) r)
      * (show EReal from s (ix2 ⟨r.val / 128, by omega⟩ j)) := by
  unfold weights
  refine (Dequant.concatenate_grouped_apply (G := 64) (N := 512) (k0_pay3 w) (k0_pay4 s) _ _ _ _ r j).trans ?_
  refine congrArg₂ (· * ·) ?_ ?_
  · pointwise [Cert.DownIdeal.Gen.k0_pay3]
    rfl
  · pointwise [Cert.DownIdeal.Gen.k0_pay4]

/-- What the body stores at one place of its block. -/
theorem stored_apply (a : FVec Ideal S256x8192 .bf16) (hs : FVec Ideal S256x1 .f32) (w : Vec Ideal S4096x512 .i8) (s : FVec Ideal S64x512 .f32)
    (x : FVec Ideal S256x512 .bf16) (r : Fin 256) (j : Fin 512) :
    (stored a hs w s x (ix2 r j) : EReal) = x (ix2 r j) + Dequant.product (K := 4096) (fun k => a (ix2 r k)) (fun k => w (ix2 k j))
      (fun k => s (ix2 ⟨k.val / 64, by omega⟩ j)) * hs (ix2 r 0) := by
  unfold stored
  pointwise [Cert.DownIdeal.Gen.k0_pay1]
  rw [← Dequant.sum_unpacked (K := 4096) _ _ _ (fun k => s (ix2 ⟨k.val / 128, by omega⟩ j)) (fun r => by
    simp only [Nat.div_div_eq_div_mul])]
  refine congrArg (x (ix2 r j) + · * hs (ix2 r 0)) (Finset.sum_congr rfl fun k _ => ?_)
  rw [weights_apply]

/-- What the first point stores into the block, and into the codes kept for the later points. -/
theorem out_A (c : Dev nD) (i : grid0.Coords) (arg1 : Memref sig .tc .vmem S256x8192 .fp8e4m3) (harg1 : arg1.IsWhole) (arg2 : Memref sig .tc .vmem S256x1 .f32) (harg2 : arg2.IsWhole) (arg3 : Memref sig .tc .vmem S4096x512 .i8) (harg3 : arg3.IsWhole) (arg4 : Memref sig .tc .vmem S64x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x8192 .bf16) (harg7 : arg7.IsWhole) (hc0 : cond0_0 i)
    (x0 : Vec Ideal S256x8192 .fp8e4m3) (x1 : Vec Ideal S256x1 .f32) (x2 : Vec Ideal S4096x512 .i8) (x3 : Vec Ideal S64x512 .f32) (x4 : Vec Ideal S256x512 .bf16) :
    out0_A_5 c i arg1 harg1 arg2 harg2 arg3 harg3 arg4 harg4 arg5 harg5 arg6 harg6 arg7 harg7 hc0 x0 x1 x2 x3 x4 = stored (k0_pay2 x0) x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readCov_unit_zero (S := S256x8192) _ hz, View.readAt_eq_ld, harg1.read_unread, harg2.read_unread, harg3.read_unread, harg4.read_unread, harg5.read_unread, View.ld_unit_zero (S := S256x8192) hz, View.ld_unit_zero (S := S256x1) hz, View.ld_unit_zero (S := S4096x512) hz, View.ld_unit_zero (S := S64x512) hz, View.ld_unit_zero (S := S256x512) hz]
  rfl

/-- What the first point leaves for the later ones: the codes in bfloat16. -/
theorem sout_A (c : Dev nD) (i : grid0.Coords) (arg1 : Memref sig .tc .vmem S256x8192 .fp8e4m3) (harg1 : arg1.IsWhole) (arg2 : Memref sig .tc .vmem S256x1 .f32) (harg2 : arg2.IsWhole) (arg3 : Memref sig .tc .vmem S4096x512 .i8) (harg3 : arg3.IsWhole) (arg4 : Memref sig .tc .vmem S64x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x8192 .bf16) (harg7 : arg7.IsWhole) (hc0 : cond0_0 i)
    (x0 : Vec Ideal S256x8192 .fp8e4m3) (x1 : Vec Ideal S256x1 .f32) (x2 : Vec Ideal S4096x512 .i8) (x3 : Vec Ideal S64x512 .f32) (x4 : Vec Ideal S256x512 .bf16) :
    sout0_A_0 c i arg1 harg1 arg2 harg2 arg3 harg3 arg4 harg4 arg5 harg5 arg6 harg6 arg7 harg7 hc0 x0 x1 x2 x3 x4 = k0_pay2 x0 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, View.ld_unit_zero (S := S256x8192) hz]

variable (m : (ℓ : Loc nD τ sig) → Buf (Elt Ideal) ℓ)

/-- The window's block indices, at every point. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] :=
  (by decide +kernel : ∀ t : Fin grid0.N, _)

/-- The codes' block is the whole array of codes, at every point. -/
theorem codes_block (c : Dev nD) (t : Fin cfg0.N) : iblk m c 0 t = m ((c : Thread nD τ).loc main_arg0) := by
  blk_ext! [iblk, V, idx t]

/-- What the block and the kept codes hold after each point. -/
theorem outsAt_eq (c : Dev nD) : ∀ (n : ℕ) (hn : n < cfg0.N),
    outsAt0 m c n hn = (stored (k0_pay2 (iblk m c 0 ⟨n, hn⟩)) (iblk m c 1 ⟨n, hn⟩) (iblk m c 2 ⟨n, hn⟩) (iblk m c 3 ⟨n, hn⟩) (iblk m c 4 ⟨n, hn⟩),
      k0_pay2 (iblk m c 0 ⟨n, hn⟩))
  | 0, hn => by
    rw [outsAt0_A m c ⟨0, hn⟩ rfl, out_A, sout_A]
  | n + 1, hn => by
    have hN : n + 1 < 6 := lt_of_lt_of_eq hn N_0
    have h := outsAt_eq c n (Nat.lt_of_succ_lt hn)
    rw [outsAt0_B m c ⟨n + 1, hn⟩ (by show ¬(n + 1) % 6 = 0; omega), out_B]
    unfold sout0_B_0
    show (stored (outsAt0 m c n _).2 _ _ _ _, (outsAt0 m c n _).2) = _
    rw [h, codes_block m c ⟨n, Nat.lt_of_succ_lt hn⟩, codes_block m c ⟨n + 1, hn⟩]

/-- The result over the argument arrays: the residual plus the product of the codes with the dequantised weights, times
    the codes' scale of the row. -/
def result (a : FVec Ideal S256x8192 .fp8e4m3) (hs : FVec Ideal S256x1 .f32) (w : Vec Ideal S4096x3072 .i8) (s : FVec Ideal S64x3072 .f32)
    (x : FVec Ideal S256x3072 .bf16) : FVec Ideal S256x3072 .bf16 := fun i =>
  ((x i : EReal) + Dequant.product (K := 4096) (fun k => a (ix2 (i 0) k)) (fun k => w (ix2 k (i 1)))
      (fun k => s (ix2 ⟨k.val / 64, by omega⟩ (i 1))) * (hs (ix2 (i 0) 0) : EReal) : EReal)

/-- What a point stores at a place of its block is the result at the array index of that place. -/
theorem point (c : Dev nD) (t : Fin cfg0.N) (y : S256x512.Idx) :
    stored (k0_pay2 (iblk m c 0 t)) (iblk m c 1 t) (iblk m c 2 t) (iblk m c 3 t) (iblk m c 4 t) y
      = result (m ((c : Thread nD τ).loc main_arg0)) (m ((c : Thread nD τ).loc main_arg1)) (m ((c : Thread nD τ).loc main_arg2))
        (m ((c : Thread nD τ).loc main_arg3)) (V m c main_v0) (((cfg0.win 5).blk t).view.emb y) := by
  idx_vars y
  refine (stored_apply _ _ _ _ _ _ _).trans ?_
  unfold result Dequant.product
  pointwise [Cert.DownIdeal.Gen.k0_pay2]
  blk_point [iblk, V, idx t]

/-- The kernel's result array after its run. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (V m c main_v0) := by
  refine (dats m 0 c).arrAt_eq_of_covers 5 _ (by decide +kernel) fun t _ y => ?_
  blk_simp
  rw [after0_5, outsAt_eq]
  exact point m c t y

end Cert.DownIdeal.Down
end
-- ==== Proof.DownRef.lean ====
/-
  The reference's result array of the last product, read at one index over its argument arrays.
-/
module

public import proofs.«01_k».proof.Proof.Gen.DownRefIdeal.Value
public import proofs.«01_k».proof.Proof.Dequant
public import Idealize.ShloMosaic.Lib.Pipeline.ValueKit

@[expose] public section

set_option maxRecDepth 16384

noncomputable section

open Idealize.ShloMosaic Idealize.ShloMosaic.TcCoe Idealize.SL.Sem
open Cert.DownRefIdeal Cert.DownRefIdeal.Gen

namespace Cert.DownRefIdeal.Down

variable (m : (ℓ : Loc nD τ sig) → Buf (Elt Ideal) ℓ)

/-- The windows' block indices: each block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The result over the argument arrays: the residual plus the product of the codes with the dequantised weights, times
    the codes' scale of the row. -/
def result (a : FVec Ideal S256x8192 .fp8e4m3) (hs : FVec Ideal S256x1 .f32) (w : Vec Ideal S4096x3072 .i8) (s : FVec Ideal S64x3072 .f32)
    (x : FVec Ideal S256x3072 .bf16) : FVec Ideal S256x3072 .bf16 := fun i =>
  ((x i : EReal) + Dequant.product (K := 4096) (fun k => a (ix2 (i 0) k)) (fun k => w (ix2 k (i 1)))
      (fun k => s (ix2 ⟨k.val / 64, by omega⟩ (i 1))) * (hs (ix2 (i 0) 0) : EReal) : EReal)

/-- The reference's result array after its run. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (V m c main_v0) := by
  refine (dats m 0 c).arrAt_eq_of_after_last 5 t0_0 (by decide +kernel) _ fun j => ?_
  blk_simp
  rw [after0_5]
  frame_out
  idx_vars j
  unfold result Dequant.product
  pointwise [Cert.DownRefIdeal.Gen.k0_pay1, Cert.DownRefIdeal.Gen.k0_pay2, Cert.DownRefIdeal.Gen.k0_pay3, Cert.Dequant.lowField, Cert.Dequant.highField]
  blk_point [iblk, V, idx t0_0]

end Cert.DownRefIdeal.Down

end
-- ==== Proof.DownClaim.lean ====
/-
  The value claim of the last product: kernel and reference leave the same result array.
-/
module

public import proofs.«01_k».proof.Defs
public import proofs.«01_k».proof.Proof.Down
public import proofs.«01_k».proof.Proof.DownRef
public import Idealize.ShloMosaic.Lib.Claim

@[expose] public section

set_option maxRecDepth 16384

noncomputable section

open Idealize.ShloMosaic Idealize.ShloMosaic.TcCoe Idealize.SL.Sem

namespace Cert.DownClaim

/-- Down: kernel and reference agree on the result array. -/
theorem algebraic : Cert.algebraic_DownIdeal_DownRefIdeal := by
  pair_intro
  · run_from Cert.DownIdeal.Gen.run_main m g
  · run_from Cert.DownRefIdeal.Gen.run_main m' g'
    refine (Cert.DownRefIdeal.Down.final m' c).trans (Eq.trans ?_ (Cert.DownIdeal.Down.final m c).symm)
    entry_read
    obtain ⟨h0, h1, h2, h3, h4⟩ := hagree c
    rw [h0, h1, h2, h3, h4]
    rfl

end Cert.DownClaim

end
-- ==== Proof.QkvRun.lean ====
/-
  The kernel of the call `qkv` run once, in each of the two cases its conditional leaves: the first point, which normalises
  and quantises, and a later point.
-/
module

public import proofs.«01_k».proof.Proof.Gen.QkvIdeal.Frame
public import proofs.«01_k».proof.Proof.Gen.QkvIdeal.Skeleton

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal Cert.QkvIdeal.Gen

variable {F : FTy → Type} [FloatOps F]

local notation "𝕄" => MT nD τ sig Unit (Elt F) ℕ (UR sig nD τ) ℕ

/-- The condition under which the kernel normalises and quantises: the first point. -/
abbrev isFirst (i : grid0.Coords) : Prop := (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val = 0 :=
  (fun t => by
    have ht : t.val < 9 := Nat.lt_of_lt_of_eq t.isLt N_0
    have e0 : (grid0.coords t 0).val = t.val / 1 % 9 := Pipeline.Grid.coords_val t 0 (by decide) rfl
    simp only [isFirst, e0]
    word_cmp
   : ∀ t : Fin grid0.N, isFirst (grid0.coords t) ↔ t.val = 0)

section

variable (c : Dev nD) (i : grid0.Coords)
  (arg1 : Memref sig .tc .vmem S256x3072 .bf16) (harg1 : arg1.IsWhole)
  (arg2 : Memref sig .tc .vmem S1x3072 .f32) (harg2 : arg2.IsWhole)
  (arg3 : Memref sig .tc .vmem S1536x512 .i8) (harg3 : arg3.IsWhole)
  (arg4 : Memref sig .tc .vmem S24x512 .f32) (harg4 : arg4.IsWhole)
  (arg5 : Memref sig .tc .vmem S256x512 .bf16) (harg5 : arg5.IsWhole)
  (arg6 : Memref sig .tc .vmem S256x3072 .fp8e4m3) (harg6 : arg6.IsWhole)
  (arg7 : Memref sig .tc .vmem S256x1 .f32) (harg7 : arg7.IsWhole)
  (arg8 : Memref sig .tc .vmem S256x3072 .bf16) (harg8 : arg8.IsWhole)

set_option maxHeartbeats 4000000 in
/-- What the kernel stores at the first point: its columns (`L4`), the codes (`L5`), the scales (`L6`) and the left operand (`L7`),
    as the pieces found by running it. -/
def first (hc0 : isFirst i)
    (x0 : Vec F S256x3072 .bf16) (x1 : Vec F S1x3072 .f32) (x2 : Vec F S1536x512 .i8) (x3 : Vec F S24x512 .f32) :
    Σ' (L4 : List (View.Piece (Elt F) S256x512 .bf16)) (L5 : List (View.Piece (Elt F) S256x3072 .fp8e4m3)) (L6 : List (View.Piece (Elt F) S256x1 .f32)), { L7 : List (View.Piece (Elt F) S256x3072 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ (∃ d, owns (c : Thread nD τ) arg5 fullShare d)
          ∗ (∃ d, owns (c : Thread nD τ) arg6 fullShare d)
          ∗ (∃ d, owns (c : Thread nD τ) arg7 fullShare d)
          ∗ (∃ d, owns (c : Thread nD τ) arg8 fullShare d)
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ (∃ f, arg5.view.loc (c : Thread nD τ) ↦[arg5.view.set]{fullShare} arg5.view.writes (Elt F) f L4)
            ∗ (∃ f, arg6.view.loc (c : Thread nD τ) ↦[arg6.view.set]{fullShare} arg6.view.writes (Elt F) f L5)
            ∗ (∃ f, arg7.view.loc (c : Thread nD τ) ↦[arg7.view.set]{fullShare} arg7.view.writes (Elt F) f L6)
            ∗ (∃ f, arg8.view.loc (c : Thread nD τ) ↦[arg8.view.set]{fullShare} arg8.view.writes (Elt F) f L7)) -∗ K ⟨⟩))
          ⊢ wp frame (wpE (defs₀ (F := F)) Variants.none c none) E (cc0_qkv i arg1 harg1 arg2 harg2 arg3 harg3 arg4 harg4 arg5 harg5 arg6 harg6 arg7 harg7 arg8 harg8) K } := by
  refine ⟨?_, ?_, ?_, ?_, fun E K => ?run⟩
  case run =>
    simp only [cc0_qkv_eq_skeleton]; unfold cc0_qkv_skel
    simp only [k0_part3_eq_skeleton, k0_part1_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0
    obtain rfl := harg2.eq_unread hf1
    obtain rfl := harg3.eq_unread hf2
    obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

set_option maxHeartbeats 4000000 in
/-- What the kernel stores at a later point: its columns (`L4`), from the scales `x6` and the left operand `xs0` the first point left. -/
def later (hc0 : ¬isFirst i)
    (x0 : Vec F S256x3072 .bf16) (x1 : Vec F S1x3072 .f32) (x2 : Vec F S1536x512 .i8) (x3 : Vec F S24x512 .f32) (x6 : Vec F S256x1 .f32) (xs0 : Vec F S256x3072 .bf16) :
    { L4 : List (View.Piece (Elt F) S256x512 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ (∃ d, owns (c : Thread nD τ) arg5 fullShare d)
          ∗ owns (c : Thread nD τ) arg7 fullShare x6
          ∗ owns (c : Thread nD τ) arg8 fullShare xs0
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ (∃ f, arg5.view.loc (c : Thread nD τ) ↦[arg5.view.set]{fullShare} arg5.view.writes (Elt F) f L4)
            ∗ owns (c : Thread nD τ) arg7 fullShare x6
            ∗ owns (c : Thread nD τ) arg8 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8) K } := by
  refine ⟨?_, fun E K => ?run⟩
  case run =>
    simp only [cc0_qkv_eq_skeleton]; unfold cc0_qkv_skel
    simp only [k0_part3_eq_skeleton, k0_part1_eq_skeleton, k0_part2_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%fs0, %hfs0, HS0⟩, Hk⟩
    obtain rfl := harg1.eq_unread hf0
    obtain rfl := harg2.eq_unread hf1
    obtain rfl := harg3.eq_unread hf2
    obtain rfl := harg4.eq_unread hf3
    obtain rfl := harg7.eq_unread hf6
    obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H6]
    · iexists _; isplitr; · ipureintro; exact harg7.read_unread _
      iexact H6
    iexists _; isplitr; · ipureintro; exact harg8.read_unread _
    iexact HS0

end

end Cert.QkvIdeal.Run

end
-- ==== Proof.QkvTiles.lean ====
/-
  What the kernel of `qkv` stores, told over plain arrays: the codes, the scales and the left operand at the first point,
  and each point's columns.
-/
module

public import proofs.«01_k».proof.Proof.QkvRun
public import proofs.«01_k».proof.Proof.Dequant
public import Idealize.ShloMosaic.Lib.Pipeline.ValueKit

@[expose] public section

set_option maxRecDepth 16384

noncomputable section

namespace Cert.QkvIdeal.Run

open Idealize.ShloMosaic Idealize.ShloMosaic.TcCoe Idealize.ShloMosaic.Tactic
open Idealize.SL Idealize.SL.Sem
open Cert.QkvIdeal Cert.QkvIdeal.Gen

variable {F : FTy → Type} [FloatOps F]

/-- The offsets of a whole-block access are zero. -/
theorem hz : (![0, 0] : Fin 2 → ℕ) = fun _ => 0 := by decide

/-- A block of weights as the body multiplies by them: the unpacked rows, each times its group's scale. -/
def weights (w : FVec F S3072x512 .bf16) (s : FVec F S24x512 .bf16) : FVec F S3072x512 .bf16 :=
  concatenate S3072x512 0 (List.ofFn fun n : Fin 24 =>
    (⟨S128x512, Dequant.grouped (G := 24) (N := 512) w s (by decide) (by decide) broadcasts_S1x512_S128x512 n⟩
      : (s : Shape) × (s.Idx → F .bf16)))
    (by rw [Dequant.grouped_shapes]; decide)

/-- The columns a point stores, from the left operand, its scales and a block of weights. -/
def columns (a : Vec F S256x3072 .bf16) (xs : Vec F S256x1 .f32) (w : Vec F S1536x512 .i8) (s : Vec F S24x512 .f32) : FVec F S256x512 .bf16 :=
  k0_pay4 a (weights (k0_pay13 w) (k0_pay14 s)) xs

/-- Each row's scale exponent. -/
def exponents (x : Vec F S256x3072 .bf16) (g : Vec F S1x3072 .f32) : IVec S256x1 32 := k0_pay8 (k0_pay6 x g) (k0_pay7 x g)

/-- The codes of the normalised rows. -/
def codes (x : Vec F S256x3072 .bf16) (g : Vec F S1x3072 .f32) : FVec F S256x3072 .fp8e4m3 := k0_pay11 (k0_pay5 x g) (exponents x g)

/-- The scales of the normalised rows. -/
def scales (x : Vec F S256x3072 .bf16) (g : Vec F S1x3072 .f32) : FVec F S256x1 .f32 := k0_pay10 (exponents x g) k0_pay9

/-- The left operand: the codes in bfloat16. -/
def operand (x : Vec F S256x3072 .bf16) (g : Vec F S1x3072 .f32) : FVec F S256x3072 .bf16 := k0_pay12 (k0_pay5 x g) (exponents x g)

/-- A load of a whole block of packed weights. -/
theorem readAt_weights (v : Memref sig .tc .vmem S1536x512 .i8) (hv : v.IsWhole) (x : Vec F S1536x512 .i8) :
    View.readAt (Elt F) v.view (Rect.unit (s := S1536x512) ![0, 0] S1536x512.size inb_S1536x512_S1536x512_0_0).toLoadRect (hv.unread x) = x := by
  rw [View.readAt_eq_ld, hv.read_unread, View.ld_unit_zero (S := S1536x512) hz]

/-- A load of a whole block of group scales. -/
theorem readAt_scales (v : Memref sig .tc .vmem S24x512 .f32) (hv : v.IsWhole) (x : Vec F S24x512 .f32) :
    View.readAt (Elt F) v.view (Rect.unit (s := S24x512) ![0, 0] S24x512.size inb_S24x512_S24x512_0_0).toLoadRect (hv.unread x) = x := by
  rw [View.readAt_eq_ld, hv.read_unread, View.ld_unit_zero (S := S24x512) hz]

section

variable (c : Dev nD) (i : grid0.Coords)
  (arg1 : Memref sig .tc .vmem S256x3072 .bf16) (harg1 : arg1.IsWhole)
  (arg2 : Memref sig .tc .vmem S1x3072 .f32) (harg2 : arg2.IsWhole)
  (arg3 : Memref sig .tc .vmem S1536x512 .i8) (harg3 : arg3.IsWhole)
  (arg4 : Memref sig .tc .vmem S24x512 .f32) (harg4 : arg4.IsWhole)
  (arg5 : Memref sig .tc .vmem S256x512 .bf16) (harg5 : arg5.IsWhole)
  (arg6 : Memref sig .tc .vmem S256x3072 .fp8e4m3) (harg6 : arg6.IsWhole)
  (arg7 : Memref sig .tc .vmem S256x1 .f32) (harg7 : arg7.IsWhole)
  (arg8 : Memref sig .tc .vmem S256x3072 .bf16) (harg8 : arg8.IsWhole)

set_option maxHeartbeats 4000000 in
/-- A later point stores its columns, from what the first point left. -/
theorem later_columns (hc0 : ¬isFirst i) (x0 : Vec F S256x3072 .bf16) (x1 : Vec F S1x3072 .f32) (x2 : Vec F S1536x512 .i8) (x3 : Vec F S24x512 .f32) (x6 : Vec F S256x1 .f32) (xs0 : Vec F S256x3072 .bf16) :
    (later c i arg1 harg1 arg2 harg2 arg3 harg3 arg4 harg4 arg5 harg5 arg6 harg6 arg7 harg7 arg8 harg8 hc0 x0 x1 x2 x3 x6 xs0).1
      = [⟨Rect.unit (s := S256x512) ![0, 0] S256x512.size inb_S256x512_S256x512_0_0, columns xs0 x6 x2 x3⟩] := by
  unfold later
  dsimp only
  sl_unfold_words
  rw [readAt_weights arg3 harg3 x2, readAt_scales arg4 harg4 x3]
  simp only [View.readCov_unit_zero (S := S256x3072) _ hz, View.readCov_unit_zero (S := S256x1) _ hz, View.readAt_eq_ld, harg1.read_unread, harg2.read_unread, harg3.read_unread, harg4.read_unread, harg7.read_unread, harg8.read_unread, View.ld_unit_zero (S := S256x3072) hz, View.ld_unit_zero (S := S1x3072) hz, View.ld_unit_zero (S := S256x1) hz, View.ld_unit_zero (S := S1536x512) hz, View.ld_unit_zero (S := S24x512) hz]
  unfold columns
  refine congrArg (fun w => [(⟨Rect.unit (s := S256x512) ![0, 0] S256x512.size inb_S256x512_S256x512_0_0, k0_pay4 xs0 w x6⟩ : View.Piece (Elt F) S256x512 .bf16)]) ?_
  unfold weights
  rfl

set_option maxHeartbeats 4000000 in
/-- The first point stores its columns, from what it has just left. -/
theorem first_columns (hc0 : isFirst i) (x0 : Vec F S256x3072 .bf16) (x1 : Vec F S1x3072 .f32) (x2 : Vec F S1536x512 .i8) (x3 : Vec F S24x512 .f32) :
    (first c i arg1 harg1 arg2 harg2 arg3 harg3 arg4 harg4 arg5 harg5 arg6 harg6 arg7 harg7 arg8 harg8 hc0 x0 x1 x2 x3).1
      = [⟨Rect.unit (s := S256x512) ![0, 0] S256x512.size inb_S256x512_S256x512_0_0, columns (operand x0 x1) (scales x0 x1) x2 x3⟩] := by
  unfold first
  dsimp only
  sl_unfold_words
  rw [readAt_weights arg3 harg3 x2, readAt_scales arg4 harg4 x3]
  simp only [View.readCov_unit_zero (S := S256x3072) _ hz, View.readCov_unit_zero (S := S256x1) _ hz, View.readAt_eq_ld, harg1.read_unread, harg2.read_unread, harg3.read_unread, harg4.read_unread, harg7.read_unread, harg8.read_unread, View.ld_unit_zero (S := S256x3072) hz, View.ld_unit_zero (S := S1x3072) hz, View.ld_unit_zero (S := S256x1) hz, View.ld_unit_zero (S := S1536x512) hz, View.ld_unit_zero (S := S24x512) hz]
  unfold columns
  refine congrArg (fun w => [(⟨Rect.unit (s := S256x512) ![0, 0] S256x512.size inb_S256x512_S256x512_0_0, k0_pay4 (operand x0 x1) w (scales x0 x1)⟩ : View.Piece (Elt F) S256x512 .bf16)]) ?_
  unfold weights
  rfl

set_option maxHeartbeats 4000000 in
/-- The first point stores the codes. -/
theorem first_codes (hc0 : isFirst i) (x0 : Vec F S256x3072 .bf16) (x1 : Vec F S1x3072 .f32) (x2 : Vec F S1536x512 .i8) (x3 : Vec F S24x512 .f32) :
    (first c i arg1 harg1 arg2 harg2 arg3 harg3 arg4 harg4 arg5 harg5 arg6 harg6 arg7 harg7 arg8 harg8 hc0 x0 x1 x2 x3).2.1
      = [⟨Rect.unit (s := S256x3072) ![0, 0] S256x3072.size inb_S256x3072_S256x3072_0_0, codes x0 x1⟩] := by
  unfold first
  dsimp only
  sl_unfold_words
  simp only [View.readCov_unit_zero (S := S256x3072) _ hz, View.readCov_unit_zero (S := S256x1) _ hz, View.readAt_eq_ld, harg1.read_unread, harg2.read_unread, harg3.read_unread, harg4.read_unread, harg7.read_unread, harg8.read_unread, View.ld_unit_zero (S := S256x3072) hz, View.ld_unit_zero (S := S1x3072) hz, View.ld_unit_zero (S := S256x1) hz, View.ld_unit_zero (S := S1536x512) hz, View.ld_unit_zero (S := S24x512) hz]
  rfl

set_option maxHeartbeats 4000000 in
/-- The first point stores the scales. -/
theorem first_scales (hc0 : isFirst i) (x0 : Vec F S256x3072 .bf16) (x1 : Vec F S1x3072 .f32) (x2 : Vec F S1536x512 .i8) (x3 : Vec F S24x512 .f32) :
    (first c i arg1 harg1 arg2 harg2 arg3 harg3 arg4 harg4 arg5 harg5 arg6 harg6 arg7 harg7 arg8 harg8 hc0 x0 x1 x2 x3).2.2.1
      = [⟨Rect.unit (s := S256x1) ![0, 0] S256x1.size inb_S256x1_S256x1_0_0, scales x0 x1⟩] := by
  unfold first
  dsimp only
  sl_unfold_words
  simp only [View.readCov_unit_zero (S := S256x3072) _ hz, View.readCov_unit_zero (S := S256x1) _ hz, View.readAt_eq_ld, harg1.read_unread, harg2.read_unread, harg3.read_unread, harg4.read_unread, harg7.read_unread, harg8.read_unread, View.ld_unit_zero (S := S256x3072) hz, View.ld_unit_zero (S := S1x3072) hz, View.ld_unit_zero (S := S256x1) hz, View.ld_unit_zero (S := S1536x512) hz, View.ld_unit_zero (S := S24x512) hz]
  rfl

set_option maxHeartbeats 4000000 in
/-- The first point stores the left operand. -/
theorem first_operand (hc0 : isFirst i) (x0 : Vec F S256x3072 .bf16) (x1 : Vec F S1x3072 .f32) (x2 : Vec F S1536x512 .i8) (x3 : Vec F S24x512 .f32) :
    (first c i arg1 harg1 arg2 harg2 arg3 harg3 arg4 harg4 arg5 harg5 arg6 harg6 arg7 harg7 arg8 harg8 hc0 x0 x1 x2 x3).2.2.2.1
      = [⟨Rect.unit (s := S256x3072) ![0, 0] S256x3072.size inb_S256x3072_S256x3072_0_0, operand x0 x1⟩] := by
  unfold first
  dsimp only
  sl_unfold_words
  simp only [View.readCov_unit_zero (S := S256x3072) _ hz, View.readCov_unit_zero (S := S256x1) _ hz, View.readAt_eq_ld, harg1.read_unread, harg2.read_unread, harg3.read_unread, harg4.read_unread, harg7.read_unread, harg8.read_unread, View.ld_unit_zero (S := S256x3072) hz, View.ld_unit_zero (S := S1x3072) hz, View.ld_unit_zero (S := S256x1) hz, View.ld_unit_zero (S := S1536x512) hz, View.ld_unit_zero (S := S24x512) hz]
  rfl

end

end Cert.QkvIdeal.Run

end
-- ==== Proof.QkvFrame.lean ====
/-
  The frame of `qkv`, and what its three results hold after a run: the body at each of the nine points, the invariant that
  carries the left operand, the codes and scales the first point leaves for the last to write back, and the launch.
-/
module

public import proofs.«01_k».proof.Proof.QkvTiles
public import Idealize.ShloMosaic.Lib.Pipeline.TableIdle
public import Idealize.ShloMosaic.Lib.VecWindow

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3072 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
/-- The scratch operand: a whole scoped buffer of the kernel's own, passed beside the windows. -/
abbrev scM0_0 : Memref sig .tc .vmem S256x3072 .bf16 := Memref.whole cc0_scratch0

/-- The frame kit's invariant with the scratch operand as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-! ## What the nine points leave -/

/-- The point at position `k`. -/
abbrev pt (k : Fin 9) : Fin cfg0.N := ⟨k.val, lt_of_lt_of_eq k.isLt N_0.symm⟩

/-- The left operand every point multiplies by, as the first point stores it. -/
def left (c : Dev nD) : FVec F S256x3072 .bf16 := operand (iblk m c 0 (pt 0)) (iblk m c 1 (pt 0))

/-- The codes the first point stores. -/
def rowCodes (c : Dev nD) : FVec F S256x3072 .fp8e4m3 := codes (iblk m c 0 (pt 0)) (iblk m c 1 (pt 0))

/-- The scales the first point stores. -/
def rowScales (c : Dev nD) : FVec F S256x1 .f32 := scales (iblk m c 0 (pt 0)) (iblk m c 1 (pt 0))

/-- The columns point `t` stores. -/
def tile (c : Dev nD) (t : Fin cfg0.N) : FVec F S256x512 .bf16 := columns (left m c) (rowScales m c) (iblk m c 2 t) (iblk m c 3 t)

/-- The invariant before position `n`: the scratch buffer at anything before the first point; afterwards at the left operand. -/
def PhiS (c : Dev nD) : (n : ℕ) → n ≤ cfg0.N → sProp 𝕄
  | 0, _ => Pipeline.ΦA spec0 c
  | n + 1, _ => iprop(owns (c : Thread nD τ) scM0_0 fullShare (left m c) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(owns (c : Thread nD τ) scM0_0 fullShare (left m c) ∗ (∃ r, prngReg c r)) := rfl

/-- Before a point that is not the first. -/
theorem PhiS_pos (c : Dev nD) (n : ℕ) (h : n ≤ cfg0.N) (hz : n ≠ 0) :
    PhiS m c n h = iprop(owns (c : Thread nD τ) scM0_0 fullShare (left m c) ∗ (∃ r, prngReg c r)) := by
  cases n with
  | zero => exact absurd rfl hz
  | succ n => rfl

/-! ## The pipeline's proof data -/

/-- The proof data of the one pipeline on core `c`: the arrays as the region finds them; after the body each input's buffer
    at its block, the columns' at the point's tile, the codes' and the scales' at what the first point stored; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
    | ⟨5, _⟩ => rowCodes m c
    | ⟨6, _⟩ => rowScales m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tile m c t := by dsimp only [dats]
theorem after0_5 (c : Dev nD) (t : Fin cfg0.N) : (dats m 0 c).after 5 t = rowCodes m c := by dsimp only [dats]
theorem after0_6 (c : Dev nD) (t : Fin cfg0.N) : (dats m 0 c).after 6 t = rowScales m c := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and the scales' windows are idle at every point but the first. -/
theorem idle_iff (t : Fin cfg0.N) : (!(k0_cond1 (grid0.coords t) == 1#1)) = true ↔ t.val ≠ 0 := by
  rw [Bool.not_eq_true', beq_eq_false_iff_ne]
  exact not_congr (isFirst_iff t)

/-- They are stored at the first. -/
theorem idle_first (t : Fin cfg0.N) (h : t.val = 0) : (!(k0_cond1 (grid0.coords t) == 1#1)) = false :=
  Bool.eq_false_iff.mpr fun e => (idle_iff t).mp e h

/-- Until the last point has run, the codes' buffer is not fresh once the first point has stored it. -/
theorem fresh0_5 : ∀ n : ℕ, n < 8 → cfg0.fresh 5 (n + 1) = false
  | 0, _ => by
    unfold Cfg.fresh
    rw [dif_pos (show 0 < cfg0.N by rw [show cfg0.N = 9 from N_0]; decide)]
    rw [show cfg0.idle 5 (cfg0.grid.coords ⟨0, _⟩) = false from idle_first ⟨0, _⟩ rfl]
    rw [show (cfg0.win 5).flush ⟨0, _⟩ = false from Bool.eq_false_iff.mpr fun e => absurd ((flush0_5 _).mp e) (by decide)]
    rfl
  | n + 1, h => by
    unfold Cfg.fresh
    have hN : cfg0.N = 9 := N_0
    rw [dif_pos (show n + 1 < cfg0.N by omega), fresh0_5 n (by omega), Bool.and_false, Bool.or_false]
    exact Bool.eq_false_iff.mpr fun e => by have h8 : (n + 1) % 9 = 8 := (flush0_5 _).mp e; omega

/-- A later point finds the codes where the first point left them. -/
theorem before0_5 (c : Dev nD) (t : Fin cfg0.N) (h : t.val ≠ 0) (d) : (dats m 0 c).before 5 t d = rowCodes m c := by
  have hN : t.val < 9 := lt_of_lt_of_eq t.isLt N_0
  rw [(dats m 0 c).before_out_traj 5 rfl (fun _ _ => rfl) (fun t _ _ _ => (after0_5 m c t).trans (after0_5 m c _).symm) t.val t rfl d]
  rw [show cfg0.fresh 5 t.val = false by
    obtain ⟨n, hn⟩ := Nat.exists_eq_succ_of_ne_zero h
    rw [hn]; exact fresh0_5 n (by omega)]
  exact after0_5 m c _

/-- The first point leaves the codes. -/
theorem leaves_first_5 (c : Dev nD) (t : Fin cfg0.N) (h : t.val = 0) :
    (dats m 0 c).leavesExact 5 t = owns (c : Thread nD τ) (ms0_5 t) fullShare (rowCodes m c) := by
  have hi : cfg0.idle 5 (grid0.coords t) = false := idle_first t h
  unfold Dat.leavesExact; rw [hi, after0_5]

/-- A later point leaves them as they were, whether or not it writes them back. -/
theorem leaves_later_5 (c : Dev nD) (t : Fin cfg0.N) (h : t.val ≠ 0) :
    (owns (c : Thread nD τ) (ms0_5 t) fullShare (rowCodes m c) : sProp 𝕄) ⊢ (dats m 0 c).leavesExact 5 t := by
  have hi : cfg0.idle 5 (grid0.coords t) = true := (idle_iff t).mpr h
  cases hf : (cfg0.win 5).flush t with
  | true =>
    unfold Dat.leavesExact; rw [hi, hf, after0_5]
  | false =>
    rw [(dats m 0 c).leavesExact_idle 5 t hi hf]
    simp only [before0_5 m c t h]
    iintro H
    iexists (rowCodes m c)
    iexact H

/-- Until the last point has run, the scales' buffer is not fresh once the first point has stored it. -/
theorem fresh0_6 : ∀ n : ℕ, n < 8 → cfg0.fresh 6 (n + 1) = false
  | 0, _ => by
    unfold Cfg.fresh
    rw [dif_pos (show 0 < cfg0.N by rw [show cfg0.N = 9 from N_0]; decide)]
    rw [show cfg0.idle 6 (cfg0.grid.coords ⟨0, _⟩) = false from idle_first ⟨0, _⟩ rfl]
    rw [show (cfg0.win 6).flush ⟨0, _⟩ = false from Bool.eq_false_iff.mpr fun e => absurd ((flush0_6 _).mp e) (by decide)]
    rfl
  | n + 1, h => by
    unfold Cfg.fresh
    have hN : cfg0.N = 9 := N_0
    rw [dif_pos (show n + 1 < cfg0.N by omega), fresh0_6 n (by omega), Bool.and_false, Bool.or_false]
    exact Bool.eq_false_iff.mpr fun e => by have h8 : (n + 1) % 9 = 8 := (flush0_6 _).mp e; omega

/-- A later point finds the scales where the first point left them. -/
theorem before0_6 (c : Dev nD) (t : Fin cfg0.N) (h : t.val ≠ 0) (d) : (dats m 0 c).before 6 t d = rowScales m c := by
  have hN : t.val < 9 := lt_of_lt_of_eq t.isLt N_0
  rw [(dats m 0 c).before_out_traj 6 rfl (fun _ _ => rfl) (fun t _ _ _ => (after0_6 m c t).trans (after0_6 m c _).symm) t.val t rfl d]
  rw [show cfg0.fresh 6 t.val = false by
    obtain ⟨n, hn⟩ := Nat.exists_eq_succ_of_ne_zero h
    rw [hn]; exact fresh0_6 n (by omega)]
  exact after0_6 m c _

/-- The first point leaves the scales. -/
theorem leaves_first_6 (c : Dev nD) (t : Fin cfg0.N) (h : t.val = 0) :
    (dats m 0 c).leavesExact 6 t = owns (c : Thread nD τ) (ms0_6 t) fullShare (rowScales m c) := by
  have hi : cfg0.idle 6 (grid0.coords t) = false := idle_first t h
  unfold Dat.leavesExact; rw [hi, after0_6]

/-- A later point leaves them as they were, whether or not it writes them back. -/
theorem leaves_later_6 (c : Dev nD) (t : Fin cfg0.N) (h : t.val ≠ 0) :
    (owns (c : Thread nD τ) (ms0_6 t) fullShare (rowScales m c) : sProp 𝕄) ⊢ (dats m 0 c).leavesExact 6 t := by
  have hi : cfg0.idle 6 (grid0.coords t) = true := (idle_iff t).mpr h
  cases hf : (cfg0.win 6).flush t with
  | true =>
    unfold Dat.leavesExact; rw [hi, hf, after0_6]
  | false =>
    rw [(dats m 0 c).leavesExact_idle 6 t hi hf]
    simp only [before0_6 m c t h]
    iintro H
    iexists (rowScales m c)
    iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the first stores the codes, the scales, the left operand and its columns; a later one its columns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · have hc0 : isFirst (grid0.coords t) := (isFirst_iff t).mpr h0
    have ht : t = pt 0 := Fin.ext h0
    have hl : left m c = operand (iblk m c 0 t) (iblk m c 1 t) := by rw [left, ht]
    have hq : rowCodes m c = codes (iblk m c 0 t) (iblk m c 1 t) := by rw [rowCodes, ht]
    have hs : rowScales m c = scales (iblk m c 0 t) (iblk m c 1 t) := by rw [rowScales, ht]
    rw [PhiS_castSucc m c t, PhiS_zero m c _ _ h0, PhiA0_eq, leaves_first_5 m c t h0, leaves_first_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hg]
    · isplitl [HS0]
      · unfold owns; iexists _; isplitr
        swap; · iexact HS0
        ipureintro
        rw [first_operand, hl]
        exact View.read_writes_full _ _ _ _ []
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      rw [first_columns, tile, hl, hs]
      exact View.read_writes_full _ _ _ _ []
    isplitl [H5]
    · unfold owns; iexists _; isplitr
      swap; · iexact H5
      ipureintro
      rw [first_codes, hq]
      exact View.read_writes_full _ _ _ _ []
    unfold owns; iexists _; isplitr
    swap; · iexact H6
    ipureintro
    rw [first_scales, hs]
    exact View.read_writes_full _ _ _ _ []
  · have hc0 : ¬isFirst (grid0.coords t) := fun e => h0 ((isFirst_iff t).mp e)
    simp only [before0_5 m c t h0, before0_6 m c t h0]
    rw [PhiS_castSucc m c t, PhiS_pos m c _ _ h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 (iblk m c 0 t) (iblk m c 1 t) (iblk m c 2 t) (iblk m c 3 t) (rowScales m c) (left m c)).2 Set.univ _)
    isplitl [H0]; · iexact H0
    isplitl [H1]; · iexact H1
    isplitl [H2]; · iexact H2
    isplitl [H3]; · iexact H3
    isplitl [H4]; · iexists _; iexact H4
    isplitl [H6]; · iexact H6
    isplitl [HS0]; · iexact HS0
    iintro ⟨H0, H1, H2, H3, ⟨%e4, H4⟩, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      rw [later_columns]
      exact View.read_writes_full _ _ _ _ []
    isplitl [H5]
    · iapply (leaves_later_5 m c t h0)
      iexact H5
    iapply (leaves_later_6 m c t h0)
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]; · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run of @main from zero counters ends with every array of the pipeline at what the proof data says and every other
    buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: every run from zero counters ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QkvIdeal.Run

end
-- ==== Proof.QkvRows.lean ====
/-
  What the kernel of `qkv` stores, read at one element: the scale exponents, the scales and the codes of the normalised
  rows, and a point's columns.
-/
module

public import proofs.«01_k».proof.Proof.QkvFrame
public import proofs.«01_k».proof.Proof.MlpIn

@[expose] public section

set_option maxRecDepth 65536

noncomputable section

namespace Cert.QkvIdeal.Run

open Idealize.ShloMosaic Idealize.ShloMosaic.TcCoe Idealize.ShloMosaic.Tactic Idealize.SL.Sem
open Cert.QkvIdeal Cert.QkvIdeal.Gen

/-- A row times a column of a block's weights. -/
theorem sum_weights (a : FVec Ideal S256x3072 .bf16) (w : Vec Ideal S1536x512 .i8) (s : FVec Ideal S24x512 .f32) (r : Fin 256) (j : Fin 512) :
    ∑ k : Fin 3072, (a (ValueIdx.ix2 r k) : EReal) * weights (k0_pay13 w) (k0_pay14 s) (ValueIdx.ix2 k j)
      = Dequant.product (K := 1536) (fun k => a (ValueIdx.ix2 r k)) (fun k => w (ValueIdx.ix2 k j)) (fun k => s (ValueIdx.ix2 ⟨k.val / 64, by omega⟩ j)) :=
  Cert.MlpInIdeal.Run.sum_weights a w s r j

/-- One element of a point's columns. -/
theorem columns_apply (a : FVec Ideal S256x3072 .bf16) (xs : FVec Ideal S256x1 .f32) (w : Vec Ideal S1536x512 .i8) (s : FVec Ideal S24x512 .f32)
    (r : Fin 256) (j : Fin 512) :
    (columns a xs w s (ValueIdx.ix2 r j) : EReal)
      = Dequant.product (K := 1536) (fun k => a (ValueIdx.ix2 r k)) (fun k => w (ValueIdx.ix2 k j)) (fun k => s (ValueIdx.ix2 ⟨k.val / 64, by omega⟩ j))
        * xs (ValueIdx.ix2 r 0) := by
  rw [← sum_weights]
  unfold columns
  pointwise [Cert.QkvIdeal.Gen.k0_pay4]
  try rfl

/-- The first three steps of the search for the exponent fields of levels `t`. -/
def upper (t : FVec Ideal S256x1 .f32) : IVec S256x1 32 :=
  let step (s : BitVec 32) (b : IVec S256x1 32) : IVec S256x1 32 :=
    select (cmpf .oge t (bitcastToFloat .f32 (shli (addi b (broadcast S256x1 s)) (broadcast S256x1 23#32)))) (addi b (broadcast S256x1 s)) b
  step 32#32 (step 64#32 (step 128#32 (broadcast S256x1 0#32)))

/-- The body's first three steps are those of the rows' levels. -/
theorem upper_eq (x : FVec Ideal S256x3072 .bf16) (g : FVec Ideal S1x3072 .f32) : k0_pay7 (F := Ideal) x g = upper (k0_pay6 (F := Ideal) x g) := by
  unfold k0_pay7 upper
  generalize k0_pay6 (F := Ideal) x g = t
  exact rfl

/-- The first three steps, at a row. -/
theorem upper_apply (t : FVec Ideal S256x1 .f32) (i : S256x1.Idx) :
    upper t i = Scale.step (t i) 32#32 (Scale.step (t i) 64#32 (Scale.step (t i) 128#32 0#32)) := by
  sl_kernel_rfl

/-- The last five steps, and the exponent. -/
theorem lower_apply (t : FVec Ideal S256x1 .f32) (b : IVec S256x1 32) (i : S256x1.Idx) :
    k0_pay8 t b i = Scale.exponent (Scale.step (t i) 1#32 (Scale.step (t i) 2#32 (Scale.step (t i) 4#32 (Scale.step (t i) 8#32
      (Scale.step (t i) 16#32 (b i)))))) := by
  sl_kernel_rfl

/-- A row's scale exponent is that of its level. -/
theorem exponents_apply (x : FVec Ideal S256x3072 .bf16) (g : FVec Ideal S1x3072 .f32) (i : S256x1.Idx) :
    exponents (F := Ideal) x g i = Scale.exponent (Scale.search (k0_pay6 (F := Ideal) x g i)) := by
  unfold exponents Scale.search
  rw [lower_apply, upper_eq, upper_apply]

/-- The scale made of a row's exponent. -/
theorem scale_apply (e : IVec S256x1 32) (i : S256x1.Idx) :
    (k0_pay10 (F := Ideal) e k0_pay9 i : EReal) = Ideal.ofBits .f32 (IntOp.shli .vector (IntOp.addi 127#32 (e i)) 23#32) := rfl

/-- A row's scale. -/
theorem scales_apply (x : FVec Ideal S256x3072 .bf16) (g : FVec Ideal S1x3072 .f32) (i : S256x1.Idx) :
    (scales (F := Ideal) x g i : EReal) = Scale.scale (k0_pay6 (F := Ideal) x g i) := by
  unfold Scale.scale scales
  rw [← exponents_apply, scale_apply]

/-- The code made of an element and its row's exponent. -/
theorem code_apply (h : FVec Ideal S256x3072 .f32) (e : IVec S256x1 32) (r : Fin 256) (n : Fin 3072) :
    (k0_pay11 h e (ValueIdx.ix2 r n) : EReal)
      = min (Ideal.ofBits .f32 0x43E00000#32) (max (Ideal.ofBits .f32 0xC3E00000#32)
        (h (ValueIdx.ix2 r n) * Ideal.ofBits .f32 (IntOp.shli .vector (IntOp.subi 127#32 (e (ValueIdx.ix2 r 0))) 23#32))) := by
  pointwise [Cert.QkvIdeal.Gen.k0_pay11]
  try rfl

/-- The code of an element of a normalised row. -/
theorem codes_apply (x : FVec Ideal S256x3072 .bf16) (g : FVec Ideal S1x3072 .f32) (r : Fin 256) (n : Fin 3072) :
    (codes (F := Ideal) x g (ValueIdx.ix2 r n) : EReal)
      = Scale.code (k0_pay6 (F := Ideal) x g (ValueIdx.ix2 r 0)) (k0_pay5 (F := Ideal) x g (ValueIdx.ix2 r n)) := by
  unfold Scale.code Scale.inverse
  rw [← exponents_apply]
  exact code_apply _ _ r n

/-- The left operand of the codes as numbers is the codes. -/
theorem widened_apply (h : FVec Ideal S256x3072 .f32) (e : IVec S256x1 32) (r : Fin 256) (n : Fin 3072) :
    (k0_pay12 h e (ValueIdx.ix2 r n) : EReal) = k0_pay11 h e (ValueIdx.ix2 r n) := by
  unfold k0_pay12
  generalize k0_pay11 h e = a
  pointwise
  try rfl

/-- The left operand is the codes. -/
theorem operand_apply (x : FVec Ideal S256x3072 .bf16) (g : FVec Ideal S1x3072 .f32) (r : Fin 256) (n : Fin 3072) :
    (operand (F := Ideal) x g (ValueIdx.ix2 r n) : EReal)
      = Scale.code (k0_pay6 (F := Ideal) x g (ValueIdx.ix2 r 0)) (k0_pay5 (F := Ideal) x g (ValueIdx.ix2 r n)) :=
  (widened_apply _ _ r n).trans (codes_apply x g r n)

end Cert.QkvIdeal.Run

end
-- ==== Proof.Qkv.lean ====
/-
  The three result arrays of `qkv` after the kernel's run: the codes and the scales of the normalised rows, and the product
  of the codes with the dequantised weights.
-/
module

public import proofs.«01_k».proof.Proof.QkvRows

@[expose] public section

set_option maxRecDepth 65536

noncomputable section

namespace Cert.QkvIdeal.Run

open Idealize.ShloMosaic Idealize.ShloMosaic.TcCoe Idealize.ShloMosaic.Tactic Idealize.SL.Sem
open Cert.QkvIdeal Cert.QkvIdeal.Gen

variable (m : (ℓ : Loc nD τ sig) → Buf (Elt Ideal) ℓ)

/-- The windows' block indices, at every point. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, 0] ∧ win0_6.index t = ![0, 0] :=
  (by decide +kernel : ∀ t : Fin grid0.N, _)

/-- The rows' block is the whole array of rows. -/
theorem rows_block (c : Dev nD) (t : Fin cfg0.N) : iblk m c 0 t = V m c main_v0 := by
  blk_ext! [iblk, idx t]

/-- The gains' block is the whole array of gains. -/
theorem gains_block (c : Dev nD) (t : Fin cfg0.N) : iblk m c 1 t = V m c main_v1 := by
  blk_ext! [iblk, idx t]

/-- The normalised rows, over the arrays the run starts with. -/
def rows (c : Dev nD) : FVec Ideal S256x3072 .f32 := k0_pay5 (F := Ideal) (V m c main_v0) (V m c main_v1)

/-- The rows' levels. -/
def levels (c : Dev nD) : FVec Ideal S256x1 .f32 := k0_pay6 (F := Ideal) (V m c main_v0) (V m c main_v1)

/-- The codes the first point leaves. -/
theorem rowCodes_apply (c : Dev nD) (r : Fin 256) (n : Fin 3072) :
    (rowCodes m c (ValueIdx.ix2 r n) : EReal) = Scale.code (levels m c (ValueIdx.ix2 r 0)) (rows m c (ValueIdx.ix2 r n)) := by
  unfold rowCodes
  rw [rows_block, gains_block]
  exact codes_apply (V m c main_v0) (V m c main_v1) r n

/-- The scales the first point leaves. -/
theorem rowScales_apply (c : Dev nD) (i : S256x1.Idx) : (rowScales m c i : EReal) = Scale.scale (levels m c i) := by
  unfold rowScales
  rw [rows_block, gains_block]
  exact scales_apply (V m c main_v0) (V m c main_v1) i

/-- The left operand the first point leaves. -/
theorem left_apply (c : Dev nD) (r : Fin 256) (n : Fin 3072) :
    (left m c (ValueIdx.ix2 r n) : EReal) = Scale.code (levels m c (ValueIdx.ix2 r 0)) (rows m c (ValueIdx.ix2 r n)) := by
  unfold left
  rw [rows_block, gains_block]
  exact operand_apply (V m c main_v0) (V m c main_v1) r n

/-- The codes' array after the run. -/
theorem final_codes (c : Dev nD) : (dats m 0 c).arrAt 5 cfg0.N
    = fun i : S256x3072.Idx => (Scale.code (levels m c (ValueIdx.ix2 (i 0) 0)) (rows m c (ValueIdx.ix2 (i 0) (i 1))) : EReal) := by
  refine (dats m 0 c).arrAt_eq_of_after_last 5 (pt 8) (by decide +kernel) _ fun j => ?_
  blk_simp
  rw [after0_5]
  exact (congrArg (rowCodes m c) (ValueIdx.eq_ix2 (n0 := 256) (n1 := 3072) j)).trans (rowCodes_apply m c (j 0) (j 1))

/-- The scales' array after the run. -/
theorem final_scales (c : Dev nD) : (dats m 0 c).arrAt 6 cfg0.N = fun i : S256x1.Idx => (Scale.scale (levels m c i) : EReal) := by
  refine (dats m 0 c).arrAt_eq_of_after_last 6 (pt 8) (by decide +kernel) _ fun j => ?_
  rw [after0_6]
  have h := rowScales_apply m c
  revert h
  generalize rowScales m c = f
  generalize levels m c = l
  intro h
  exact (cast_eq _ _).trans (h j)

/-- Row `r` of the codes times column `n` of the weights, times the row's scale. -/
def productOf (c : Dev nD) (r : Fin 256) (n : Fin 20992) : EReal :=
  Mlp.product (fun r k => Scale.code (levels m c (ValueIdx.ix2 r 0)) (rows m c (ValueIdx.ix2 r k)))
    (fun r => Scale.scale (levels m c (ValueIdx.ix2 r 0)))
    (fun k n => (m ((c : Thread nD τ).loc main_arg2) : IVec S1536x20992 8) (ValueIdx.ix2 k n))
    (fun k n => (m ((c : Thread nD τ).loc main_arg3) : FVec Ideal S24x20992 .f32) (ValueIdx.ix2 k n)) r n

/-- A point's columns are the products of the weights' columns at `512 t` and on. -/
theorem tile_apply (c : Dev nD) (t : Fin cfg0.N) (ht : t.val < 9) (r : Fin 256) (j : Fin 512) :
    (tile m c t (ValueIdx.ix2 r j) : EReal) = productOf m c r ⟨512 * t.val + j.val, by omega⟩ := by
  unfold tile
  refine (columns_apply _ _ _ _ r j).trans ?_
  unfold productOf Mlp.product
  refine congrArg₂ (· * ·) ?_ (rowScales_apply m c (ValueIdx.ix2 r 0))
  refine (congrArg (fun a => Dequant.product (K := 1536) a _ _) (funext fun k => left_apply m c r k)).trans ?_
  refine congrArg₂ (Dequant.product (K := 1536) _) (funext fun k => ?_) (funext fun k => ?_)
  · blk_point [iblk, V, idx t]
    all_goals (show t.val * 512 + j.val = 512 * t.val + j.val; omega)
  · blk_point [iblk, V, idx t]
    all_goals (show t.val * 512 + j.val = 512 * t.val + j.val; omega)

/-- The columns over the arrays the run starts with. -/
def columnsOf (c : Dev nD) : FVec Ideal S256x4608 .bf16 := fun i =>
  productOf m c (i 0) ⟨(i 1).val, lt_of_lt_of_le (i 1).isLt (by decide)⟩

/-- A point's columns at a place of its block, and the columns at the array index of that place. -/
theorem tile_at (c : Dev nD) (t : Fin cfg0.N) (y : S256x512.Idx) (i : S256x4608.Idx)
    (h0 : (y 0).val = (i 0).val) (h1 : 512 * t.val + (y 1).val = (i 1).val) : tile m c t y = columnsOf m c i := by
  refine (congrArg (tile m c t) (ValueIdx.eq_ix2 (n0 := 256) (n1 := 512) y)).trans ?_
  refine (tile_apply m c t (lt_of_lt_of_eq t.isLt N_0) (y 0) (y 1)).trans ?_
  unfold columnsOf
  exact congrArg₂ (fun r n => productOf m c r n) (Fin.ext h0) (Fin.ext h1)

/-- What a point stores at a place of its block is the column's element at the array index of that place. -/
theorem point (c : Dev nD) (t : Fin cfg0.N) (y : S256x512.Idx) :
    tile m c t y = columnsOf m c (((cfg0.win 4).blk t).view.emb y) := by
  refine tile_at m c t y _ ?_ ?_
  · blk_simp
    simp [idx t]
  · blk_simp
    simp [idx t]
    omega

/-- The columns' array after the run. -/
theorem final_columns (c : Dev nD) : (dats m 0 c).arrAt 4 cfg0.N = columnsOf m c := by
  refine (dats m 0 c).arrAt_eq_of_covers 4 _ (by decide +kernel) fun t _ y => ?_
  rw [after0_4]
  have h := point m c t
  revert h
  generalize tile m c t = f
  generalize columnsOf m c = l
  intro h
  exact (cast_eq _ _).trans (h y)

end Cert.QkvIdeal.Run

end
-- ==== Proof.QkvRef.lean ====
/-
  The three result arrays of the reference of `qkv` after its run.
-/
module

public import proofs.«01_k».proof.Proof.Gen.QkvRefIdeal.Value
public import proofs.«01_k».proof.Proof.MlpInRef

@[expose] public section

set_option maxRecDepth 65536

noncomputable section

open Idealize.ShloMosaic Idealize.ShloMosaic.TcCoe Idealize.SL.Sem
open Cert.QkvRefIdeal Cert.QkvRefIdeal.Gen

namespace Cert.QkvRefIdeal.Qkv

/-- The levels of an array's rows. -/
def levels (h : FVec Ideal S256x3072 .f32) : FVec Ideal S256x1 .f32 :=
  mulf (shapeCast S256x1 (multiReduction .maximumf [1] S256 (absf h) 0xFF800000#32 reduces_S256x3072_S256 (.inl rfl) rfl) shapeCasts_S256_S256x1)
    (broadcast S256x1 (Scalar.ofBits .f32 0x3B124925#32))

/-- The scales of the rows of levels `t`. -/
abbrev scales (t : FVec Ideal S256x1 .f32) : FVec Ideal S256x1 .f32 := Cert.MlpInRefIdeal.Gen.k0_pay1 t

/-- The scales are those of the normalised rows' levels. -/
theorem scales_eq (x : FVec Ideal S256x3072 .bf16) (g : FVec Ideal S1x3072 .f32) :
    k0_pay3 (F := Ideal) x g = scales (levels (k0_pay2 (F := Ideal) x g)) := by
  sl_kernel_rfl

/-- The code of an element of a row of scale `s`. -/
theorem inverted_apply (h : FVec Ideal S256x3072 .f32) (s : FVec Ideal S256x1 .f32) (r : Fin 256) (n : Fin 3072) :
    (k0_pay6 h s (cmpf .olt s (broadcast S256x1 (Scalar.ofBits .f32 0x7F000000#32))) (k0_pay5 (F := Ideal)) (ix2 r n) : EReal)
      = min (Ideal.ofBits .f32 0x43E00000#32) (max (Ideal.ofBits .f32 0xC3E00000#32) (h (ix2 r n) * Scale.inverted (s (ix2 r 0)))) := by
  unfold Scale.inverted
  pointwise [Cert.QkvRefIdeal.Gen.k0_pay6, Cert.QkvRefIdeal.Gen.k0_pay5]

/-- The code of an element of a row of level `t`. -/
theorem code_apply (h : FVec Ideal S256x3072 .f32) (t : FVec Ideal S256x1 .f32) (r : Fin 256) (n : Fin 3072) :
    (k0_pay6 h (scales t) (cmpf .olt (scales t) (broadcast S256x1 (Scalar.ofBits .f32 0x7F000000#32))) (k0_pay5 (F := Ideal)) (ix2 r n) : EReal)
      = Scale.code (t (ix2 r 0)) (h (ix2 r n)) := by
  refine (inverted_apply h (scales t) r n).trans ?_
  unfold Scale.code
  rw [← Scale.inverse_eq, ← Cert.MlpInRefIdeal.Mlp.scale_apply]

/-- One element of the columns, from the codes `a`, their scales and the columns of weights. -/
theorem column_apply (xs : FVec Ideal S256x1 .f32) (a : FVec Ideal S256x3072 .fp8e4m3) (w : Vec Ideal S1536x4608 .i8) (s : FVec Ideal S24x4608 .f32)
    (r : Fin 256) (j : Fin 4608) :
    (k0_pay1 xs a (k0_pay7 s) (k0_pay9 w) (k0_pay10 w) (ix2 r j) : EReal)
      = Dequant.product (K := 1536) (fun k => a (ix2 r k)) (fun k => w (ix2 k j)) (fun k => s (ix2 ⟨k.val / 64, by omega⟩ j))
        * xs (ix2 r 0) := by
  unfold Dequant.product
  pointwise [Cert.QkvRefIdeal.Gen.k0_pay1, Cert.QkvRefIdeal.Gen.k0_pay7, Cert.QkvRefIdeal.Gen.k0_pay8, Cert.QkvRefIdeal.Gen.k0_pay9, Cert.QkvRefIdeal.Gen.k0_pay10, Cert.Dequant.lowField, Cert.Dequant.highField]

variable (m : (ℓ : Loc nD τ sig) → Buf (Elt Ideal) ℓ)

/-- The windows' block indices: each block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The offsets of a whole-block access are zero. -/
theorem hz : (![0, 0] : Fin 2 → ℕ) = fun _ => 0 := by decide

/-- The rows' block is the whole array of rows. -/
theorem rows_block (c : Dev nD) (t : Fin cfg0.N) : iblk m c 0 t = V m c main_v0 := by
  blk_ext! [iblk, idx t]

/-- The gains' block is the whole array of gains. -/
theorem gains_block (c : Dev nD) (t : Fin cfg0.N) : iblk m c 1 t = V m c main_v1 := by
  blk_ext! [iblk, idx t]

/-- The weights' block is the whole array of weights. -/
theorem weights_block (c : Dev nD) (t : Fin cfg0.N) : iblk m c 2 t = m ((c : Thread nD τ).loc main_arg2) := by
  blk_ext! [iblk, V, idx t]

/-- The group scales' block is the whole array of group scales. -/
theorem groups_block (c : Dev nD) (t : Fin cfg0.N) : iblk m c 3 t = m ((c : Thread nD τ).loc main_arg3) := by
  blk_ext! [iblk, V, idx t]

/-- The normalised rows, over the arrays the run starts with. -/
abbrev rows (c : Dev nD) : FVec Ideal S256x3072 .f32 := k0_pay2 (F := Ideal) (V m c main_v0) (V m c main_v1)

/-- The codes over the blocks. -/
theorem codes_eq (x0 : FVec Ideal S256x3072 .bf16) (x1 : FVec Ideal S1x3072 .f32) (x2 : Vec Ideal S1536x20992 .i8) (x3 : FVec Ideal S24x20992 .f32)
    (r : Fin 256) (n : Fin 3072) :
    (k0_pay6 (k0_pay11 (F := Ideal) x0 x1 x2 x3) (k0_pay12 (F := Ideal) x0 x1 x2 x3) (k0_pay13 (F := Ideal) x0 x1 x2 x3) (k0_pay14 (F := Ideal) x0 x1 x2 x3) (ix2 r n) : EReal)
      = Scale.code (levels (k0_pay2 (F := Ideal) x0 x1) (ix2 r 0)) (k0_pay2 (F := Ideal) x0 x1 (ix2 r n)) := by
  unfold k0_pay11 k0_pay12 k0_pay13 k0_pay14 k0_pay4
  rw [View.ld_unit_zero (S := S256x3072) hz, View.ld_unit_zero (S := S1x3072) hz, scales_eq]
  exact code_apply _ _ r n

/-- The scales over the blocks. -/
theorem scale_eq (x0 : FVec Ideal S256x3072 .bf16) (x1 : FVec Ideal S1x3072 .f32) (x2 : Vec Ideal S1536x20992 .i8) (x3 : FVec Ideal S24x20992 .f32)
    (r : Fin 256) :
    (k0_pay12 (F := Ideal) x0 x1 x2 x3 (ix2 r 0) : EReal) = Scale.scale (levels (k0_pay2 (F := Ideal) x0 x1) (ix2 r 0)) := by
  unfold k0_pay12
  rw [View.ld_unit_zero (S := S256x3072) hz, View.ld_unit_zero (S := S1x3072) hz, scales_eq]
  exact Cert.MlpInRefIdeal.Mlp.scale_apply _ r

/-- The codes' array after the run. -/
theorem final_codes (c : Dev nD) : (dats m 0 c).arrAt 5 cfg0.N
    = fun i : S256x3072.Idx => (Scale.code (levels (rows m c) (ix2 (i 0) 0)) (rows m c (ix2 (i 0) (i 1))) : EReal) := by
  refine (dats m 0 c).arrAt_eq_of_after_last 5 t0_0 (by decide +kernel) _ fun j => ?_
  blk_simp
  rw [after0_5]
  unfold out0_5
  rw [View.canon_unit_zero hz, rows_block, gains_block]
  idx_vars j
  exact codes_eq _ _ _ _ _ _

/-- The scales' array after the run. -/
theorem final_scales (c : Dev nD) : (dats m 0 c).arrAt 6 cfg0.N
    = fun i : S256x1.Idx => (Scale.scale (levels (rows m c) i) : EReal) := by
  refine (dats m 0 c).arrAt_eq_of_after_last 6 t0_0 (by decide +kernel) _ fun j => ?_
  blk_simp
  rw [after0_6]
  unfold out0_6
  rw [View.canon_unit_zero hz, rows_block, gains_block]
  idx_vars j
  obtain rfl : j1 = 0 := Subsingleton.elim _ _
  exact scale_eq _ _ _ _ _

/-- Row `r` of the codes times column `n` of the weights, times the row's scale. -/
abbrev productOf (c : Dev nD) (r : Fin 256) (n : Fin 20992) : EReal :=
  Mlp.product (fun r k => Scale.code (levels (rows m c) (ix2 r 0)) (rows m c (ix2 r k)))
    (fun r => Scale.scale (levels (rows m c) (ix2 r 0)))
    (fun k n => (m ((c : Thread nD τ).loc main_arg2) : IVec S1536x20992 8) (ix2 k n))
    (fun k n => (m ((c : Thread nD τ).loc main_arg3) : FVec Ideal S24x20992 .f32) (ix2 k n)) r n

/-- A load of the first 4608 columns, at an index. -/
theorem ld_columns {E : Type} {K : ℕ} (d : (⟨2, ![K, 20992]⟩ : Shape).Idx → E)
    (inb : ∀ a, (![0, 0] : Fin 2 → ℕ) a + (![K, 4608] : Fin 2 → ℕ) a ≤ (⟨2, ![K, 20992]⟩ : Shape).size a) (k : Fin K) (n : Fin 4608) :
    d ((Rect.unit (s := ⟨2, ![K, 20992]⟩) ![0, 0] ![K, 4608] inb).idx (ix2 k n)) = d (ix2 k ⟨n.val, by omega⟩) := by
  refine congrArg d (funext fun a => Fin.ext ?_)
  fin_cases a
  · show 0 + 1 * k.val = k.val; omega
  · show 0 + 1 * n.val = n.val; omega

/-- The columns' array after the run. -/
theorem final_columns (c : Dev nD) : (dats m 0 c).arrAt 4 cfg0.N
    = fun i : S256x4608.Idx => (productOf m c (i 0) ⟨(i 1).val, lt_of_lt_of_le (i 1).isLt (by decide)⟩ : EReal) := by
  refine (dats m 0 c).arrAt_eq_of_after_last 4 t0_0 (by decide +kernel) _ fun j => ?_
  blk_simp
  rw [after0_4]
  unfold out0_4
  rw [View.canon_unit_zero hz, rows_block, gains_block, weights_block, groups_block]
  idx_vars j
  refine (column_apply _ _ _ _ j0 j1).trans ?_
  unfold productOf Mlp.product
  refine congrArg₂ (· * ·) ?_ (scale_eq _ _ _ _ _)
  refine (congrArg (fun a => Dequant.product (K := 1536) a _ _) (funext fun k => codes_eq _ _ _ _ j0 k)).trans ?_
  refine congrArg₂ (Dequant.product (K := 1536) _) (funext fun k => ?_) (funext fun k => ?_)
  · exact ld_columns _ _ k j1
  · exact ld_columns _ _ _ j1

end Cert.QkvRefIdeal.Qkv

end
-- ==== Proof.QkvClaim.lean ====
/-
  The claims of the gated layer: the frame of the kernel as the version has it, and that kernel and reference leave the
  same codes and scales.
-/
module

public import proofs.«01_k».proof.Defs
public import proofs.«01_k».proof.Proof.Qkv
public import proofs.«01_k».proof.Proof.QkvRef
public import proofs.«01_k».proof.Proof.Gen.Qkv
public import Idealize.ShloMosaic.Lib.Claim
public import Idealize.ShloMosaic.Lib.Tactic

@[expose] public section

set_option maxRecDepth 65536

noncomputable section

open Idealize.ShloMosaic Idealize.ShloMosaic.TcCoe Idealize.SL.Sem

namespace Cert.QkvClaim

/-- The kernel and its idealised form are the same program, so their frames say the same. -/
theorem frame_eq :
  (∀ (m : (ℓ : Loc Cert.QkvIdeal.nD Cert.QkvIdeal.τ Cert.QkvIdeal.sig) → Buf (Elt Bits) ℓ) (g : Dev Cert.QkvIdeal.nD → PrngReg),
    θ_run (Cert.QkvIdeal.defs (F := Bits)) (onTc (τ := Cert.QkvIdeal.τ) (Cert.QkvIdeal.main (F := Bits))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0))
  = (∀ (m : (ℓ : Loc Cert.Qkv.nD Cert.Qkv.τ Cert.Qkv.sig) → Buf (Elt Bits) ℓ) (g : Dev Cert.Qkv.nD → PrngReg),
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)) := by
  sl_kernel_rfl

/-- Qkv's frame, at the machine's own floats. -/
theorem frame : Cert.quiescent_Qkv (hQkv := Cert.Qkv.Gen.facts) :=
  fun m g _ => (frame_eq ▸ fun m g => Cert.QkvIdeal.Run.frame m g) m g

/-- The normalised rows of the kernel are those of the reference. -/
theorem rows_eq (x : FVec Ideal Cert.QkvIdeal.S256x3072 .bf16) (g : FVec Ideal Cert.QkvIdeal.S1x3072 .f32) :
    Cert.QkvRefIdeal.Gen.k0_pay2 (F := Ideal) x g = Cert.QkvIdeal.Gen.k0_pay5 (F := Ideal) x g := by
  sl_kernel_rfl

/-- So are their levels. -/
theorem levels_eq (x : FVec Ideal Cert.QkvIdeal.S256x3072 .bf16) (g : FVec Ideal Cert.QkvIdeal.S1x3072 .f32) :
    Cert.QkvRefIdeal.Qkv.levels (Cert.QkvRefIdeal.Gen.k0_pay2 (F := Ideal) x g) = Cert.QkvIdeal.Gen.k0_pay6 (F := Ideal) x g := by
  sl_kernel_rfl

section

variable (m : (ℓ : Loc Cert.QkvIdeal.nD Cert.QkvIdeal.τ Cert.QkvIdeal.sig) → Buf (Elt Ideal) ℓ)
  (m' : (ℓ : Loc Cert.QkvRefIdeal.nD Cert.QkvRefIdeal.τ Cert.QkvRefIdeal.sig) → Buf (Elt Ideal) ℓ) (c : Dev Cert.QkvIdeal.nD)

/-- From the same `x`, kernel and reference read the same rows. -/
theorem input_eq (h : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)) :
    (Cert.QkvRefIdeal.Gen.V m' c Cert.QkvRefIdeal.main_v0 : FVec Ideal Cert.QkvIdeal.S256x3072 .bf16) = Cert.QkvIdeal.Gen.V m c Cert.QkvIdeal.main_v0 := by
  entry_read
  rw [h]
  rfl

/-- From the same gains, kernel and reference read the same row of gains. -/
theorem gains_eq (h : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) :
    (Cert.QkvRefIdeal.Gen.V m' c Cert.QkvRefIdeal.main_v1 : FVec Ideal Cert.QkvIdeal.S1x3072 .f32) = Cert.QkvIdeal.Gen.V m c Cert.QkvIdeal.main_v1 := by
  entry_read
  rw [h]
  rfl

variable (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
  (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))

include h0 h1

/-- From the same arguments, the normalised rows are the same. -/
theorem rows_agree : Cert.QkvRefIdeal.Qkv.rows m' c = Cert.QkvIdeal.Run.rows m c := by
  unfold Cert.QkvRefIdeal.Qkv.rows Cert.QkvIdeal.Run.rows
  rw [← input_eq m m' c h0, ← gains_eq m m' c h1]
  exact rows_eq _ _

/-- From the same arguments, the rows' levels are the same. -/
theorem levels_agree : Cert.QkvRefIdeal.Qkv.levels (Cert.QkvRefIdeal.Qkv.rows m' c) = Cert.QkvIdeal.Run.levels m c := by
  unfold Cert.QkvRefIdeal.Qkv.rows Cert.QkvIdeal.Run.levels
  rw [← input_eq m m' c h0, ← gains_eq m m' c h1]
  exact levels_eq _ _

end

/-- Qkv: kernel and reference agree on the columns, the codes and the scales. -/
theorem algebraic : Cert.algebraic_QkvIdeal_QkvRefIdeal := by
  pair_intro
  · run_from Cert.QkvIdeal.Run.run_main m g
  · run_from Cert.QkvRefIdeal.Gen.run_main m' g'
    · refine (Cert.QkvRefIdeal.Qkv.final_columns m' c).trans (Eq.trans ?_ (Cert.QkvIdeal.Run.final_columns m c).symm)
      obtain ⟨h0, h1, h2, h3⟩ := hagree c
      unfold Cert.QkvIdeal.Run.columnsOf Cert.QkvRefIdeal.Qkv.productOf Cert.QkvIdeal.Run.productOf
      rw [levels_agree m m' c h0 h1, rows_agree m m' c h0 h1, h2, h3]
      generalize Cert.QkvIdeal.Run.levels m c = l
      generalize Cert.QkvIdeal.Run.rows m c = x
      rfl
    · refine (Cert.QkvRefIdeal.Qkv.final_codes m' c).trans (Eq.trans ?_ (Cert.QkvIdeal.Run.final_codes m c).symm)
      obtain ⟨h0, h1, -, -⟩ := hagree c
      rw [levels_agree m m' c h0 h1, rows_agree m m' c h0 h1]
      generalize Cert.QkvIdeal.Run.levels m c = l
      generalize Cert.QkvIdeal.Run.rows m c = x
      rfl
    · refine (Cert.QkvRefIdeal.Qkv.final_scales m' c).trans (Eq.trans ?_ (Cert.QkvIdeal.Run.final_scales m c).symm)
      obtain ⟨h0, h1, -, -⟩ := hagree c
      rw [levels_agree m m' c h0 h1]

end Cert.QkvClaim

end
-- ==== Proof.lean ====
/-
  The certificate: the claims of the certificate's Defs module, proved.
-/
module

public import proofs.«01_k».proof.Defs
public import proofs.«01_k».proof.Proof.Gen.MlpInRefIdeal.Value
public import proofs.«01_k».proof.Proof.MlpInClaim
public import proofs.«01_k».proof.Proof.Gen.Down.Frame
public import proofs.«01_k».proof.Proof.Gen.QkvIdeal.Frame
public import proofs.«01_k».proof.Proof.Gen.QkvIdeal.Skeleton
public import proofs.«01_k».proof.Proof.Gen.QkvRefIdeal.Value
public import proofs.«01_k».proof.Proof.Gen.Qkv
public import proofs.«01_k».proof.Proof.Gen.DownIdeal.Value
public import proofs.«01_k».proof.Proof.Gen.DownRefIdeal.Value
public import proofs.«01_k».proof.Proof.DownClaim
public import proofs.«01_k».proof.Proof.QkvClaim

@[expose] public section

noncomputable section

open Idealize.ShloMosaic

namespace Cert.Proof

/-- Everything the certificate claims. -/
theorem claim : Cert.Claim :=
  ⟨Cert.MlpIn.Gen.facts, Cert.MlpInIdeal.Gen.facts, Cert.MlpInRefIdeal.Gen.facts, Cert.Down.Gen.facts, Cert.DownIdeal.Gen.facts,
    Cert.DownRefIdeal.Gen.facts, Cert.Qkv.Gen.facts, Cert.QkvIdeal.Gen.facts, Cert.QkvRefIdeal.Gen.facts,
    Cert.MlpInClaim.frame, fun m ρ _ => Cert.MlpInIdeal.Run.frame m ρ, fun m ρ _ => Cert.MlpInRefIdeal.Gen.frame m ρ,
    fun m ρ _ => Cert.Down.Gen.frame m ρ, fun m ρ _ => Cert.DownIdeal.Gen.frame m ρ, fun m ρ _ => Cert.DownRefIdeal.Gen.frame m ρ,
    Cert.QkvClaim.frame, fun m ρ _ => Cert.QkvIdeal.Run.frame m ρ, fun m ρ _ => Cert.QkvRefIdeal.Gen.frame m ρ,
    trivial, Cert.MlpInClaim.algebraic, trivial, Cert.DownClaim.algebraic, trivial, Cert.QkvClaim.algebraic⟩

end Cert.Proof

end
